-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x256x64x64 : Shape := ⟨4, ![32, 256, 64, 64]⟩
abbrev S1x256x1x1 : Shape := ⟨4, ![1, 256, 1, 1]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S1x256x1x1 : S_.BroadcastsInDim S1x256x1x1 (![] : Fin 0 → Fin S1x256x1x1.rank)
  reducesTo_S1x256x1x1_S_d0_1_2_3 : S1x256x1x1.ReducesTo [0, 1, 2, 3] S_

variable [Facts]

def fn {F : FTy → Type} [FloatOps F] (main_arg0 : FVec F S32x256x64x64 .f32) (main_arg1 : FVec F S1x256x1x1 .f32) (main_arg2 : FVec F S1x256x1x1 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S1x256x1x1 .f32 := Host.absf main_arg1
  let main_cst_0 : FVec F S_ .f32 := constant S_ .f32 0x7F800000#32
  let main_v5 : FVec F S1x256x1x1 .f32 := broadcastInDim S1x256x1x1 ![] bcast_S_S1x256x1x1 main_cst_0
  let main_v6 : IVec S1x256x1x1 1 := cmpf .olt main_v4 main_v5
  let main_c_1 : IVec S_ 1 := constantI S_ 1 1#1
  let main_v7 : IVec S_ 1 := (fun x v => Host.reduce IntOp.andi x v reducesTo_S1x256x1x1_S_d0_1_2_3 h_S_) main_v6 main_c_1
  let main_v8 : IVec S_ 1 := andi main_v3 main_v7
  main_v8
-- ==== Kernel.lean ====
abbrev S32x256x64x64 : Shape := ⟨4, ![32, 256, 64, 64]⟩
abbrev S1x256x1x1 : Shape := ⟨4, ![1, 256, 1, 1]⟩
abbrev S32x256x4096 : Shape := ⟨3, ![32, 256, 4096]⟩
abbrev S8x32x1 : Shape := ⟨3, ![8, 32, 1]⟩
abbrev S8x32x32 : Shape := ⟨3, ![8, 32, 32]⟩
abbrev S32x32x4096 : Shape := ⟨3, ![32, 32, 4096]⟩
abbrev S1x32x1 : Shape := ⟨3, ![1, 32, 1]⟩
abbrev S1x32x32 : Shape := ⟨3, ![1, 32, 32]⟩
abbrev S32x32 : Shape := ⟨2, ![32, 32]⟩
abbrev S32x32x32 : Shape := ⟨3, ![32, 32, 32]⟩
abbrev S32x4096 : Shape := ⟨2, ![32, 4096]⟩
abbrev S32 : Shape := ⟨1, ![32]⟩
abbrev S32x1 : Shape := ⟨2, ![32, 1]⟩
abbrev S1x32 : Shape := ⟨2, ![1, 32]⟩
abbrev S1 : Shape := ⟨1, ![1]⟩
abbrev S1x1x1 : Shape := ⟨3, ![1, 1, 1]⟩
abbrev S1x1 : Shape := ⟨2, ![1, 1]⟩
abbrev S32x32x2048 : Shape := ⟨3, ![32, 32, 2048]⟩

abbrev nBuf : Space → Nat
  | .hbm => 11
  | .vmem => 22
  | .smem => 0
  | _ => 0

abbrev bufTy : (tb : Table) → Fin (tcTables nBuf tb) → BufTy
  | .hbm, ⟨0, _⟩ => ⟨S32x256x64x64, .f32⟩
  | .hbm, ⟨1, _⟩ => ⟨S1x256x1x1, .f32⟩
  | .hbm, ⟨2, _⟩ => ⟨S1x256x1x1, .f32⟩
  | .hbm, ⟨3, _⟩ => ⟨S32x256x4096, .f32⟩
  | .hbm, ⟨4, _⟩ => ⟨S8x32x1, .f32⟩
  | .hbm, ⟨5, _⟩ => ⟨S8x32x1, .f32⟩
  | .hbm, ⟨6, _⟩ => ⟨S8x32x32, .f32⟩
  | .hbm, ⟨7, _⟩ => ⟨S8x32x1, .f32⟩
  | .hbm, ⟨8, _⟩ => ⟨S8x32x1, .f32⟩
  | .hbm, ⟨9, _⟩ => ⟨S32x256x4096, .f32⟩
  | .hbm, ⟨10, _⟩ => ⟨S32x256x64x64, .f32⟩
  | .local _ .vmem, ⟨0, _⟩ => ⟨S32x32x4096, .f32⟩
  | .local _ .vmem, ⟨1, _⟩ => ⟨S32x32x4096, .f32⟩
  | .local _ .vmem, ⟨2, _⟩ => ⟨S1x32x1, .f32⟩
  | .local _ .vmem, ⟨3, _⟩ => ⟨S1x32x1, .f32⟩
  | .local _ .vmem, ⟨4, _⟩ => ⟨S1x32x1, .f32⟩
  | .local _ .vmem, ⟨5, _⟩ => ⟨S1x32x1, .f32⟩
  | .local _ .vmem, ⟨6, _⟩ => ⟨S1x32x32, .f32⟩
  | .local _ .vmem, ⟨7, _⟩ => ⟨S1x32x32, .f32⟩
  | .local _ .vmem, ⟨8, _⟩ => ⟨S1x32x1, .f32⟩
  | .local _ .vmem, ⟨9, _⟩ => ⟨S1x32x1, .f32⟩
  | .local _ .vmem, ⟨10, _⟩ => ⟨S1x32x1, .f32⟩
  | .local _ .vmem, ⟨11, _⟩ => ⟨S1x32x1, .f32⟩
  | .local _ .vmem, ⟨12, _⟩ => ⟨S32x32x2048, .f32⟩
  | .local _ .vmem, ⟨13, _⟩ => ⟨S32x32x2048, .f32⟩
  | .local _ .vmem, ⟨14, _⟩ => ⟨S1x32x32, .f32⟩
  | .local _ .vmem, ⟨15, _⟩ => ⟨S1x32x32, .f32⟩
  | .local _ .vmem, ⟨16, _⟩ => ⟨S1x32x1, .f32⟩
  | .local _ .vmem, ⟨17, _⟩ => ⟨S1x32x1, .f32⟩
  | .local _ .vmem, ⟨18, _⟩ => ⟨S1x32x1, .f32⟩
  | .local _ .vmem, ⟨19, _⟩ => ⟨S1x32x1, .f32⟩
  | .local _ .vmem, ⟨20, _⟩ => ⟨S32x32x2048, .f32⟩
  | .local _ .vmem, ⟨21, _⟩ => ⟨S32x32x2048, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S32x32x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x32x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x32x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S32x32x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S32x256x64x64 : Shape := ⟨4, ![32, 256, 64, 64]⟩
abbrev S1x256x1x1 : Shape := ⟨4, ![1, 256, 1, 1]⟩
abbrev S32x8x32x64x64 : Shape := ⟨5, ![32, 8, 32, 64, 64]⟩
abbrev S8x32x32x64x64 : Shape := ⟨5, ![8, 32, 32, 64, 64]⟩
abbrev S8x32x131072 : Shape := ⟨3, ![8, 32, 131072]⟩
abbrev S_ : Shape := ⟨0, ![]⟩
abbrev S8x32 : Shape := ⟨2, ![8, 32]⟩
abbrev S8x32x1 : Shape := ⟨3, ![8, 32, 1]⟩
abbrev S32x32 : Shape := ⟨2, ![32, 32]⟩
abbrev S8x32x32 : Shape := ⟨3, ![8, 32, 32]⟩
abbrev S1x32x32 : Shape := ⟨3, ![1, 32, 32]⟩
abbrev S8 : Shape := ⟨1, ![8]⟩
abbrev S8x1x1 : Shape := ⟨3, ![8, 1, 1]⟩
abbrev S256x32x64x64 : Shape := ⟨4, ![256, 32, 64, 64]⟩

abbrev nBuf : Space → Nat
  | .hbm => 133
  | .vmem => 0
  | .smem => 0
  | _ => 0

abbrev hbmTy0_0 (i : Nat) : BufTy := match i % 128 with
  | 0 => ⟨S32x256x64x64, .f32⟩
  | 1 => ⟨S1x256x1x1, .f32⟩
  | 2 => ⟨S1x256x1x1, .f32⟩
  | 3 => ⟨S32x8x32x64x64, .f32⟩
  | 4 => ⟨S8x32x32x64x64, .f32⟩
  | 5 => ⟨S8x32x131072, .f32⟩
  | 6 => ⟨S_, .f32⟩
  | 7 => ⟨S8x32, .f32⟩
  | 8 => ⟨S8x32x1, .f32⟩
  | 9 => ⟨S_, .f32⟩
  | 10 => ⟨S8x32x1, .f32⟩
  | 11 => ⟨S8x32x1, .f32⟩
  | 12 => ⟨S8x32x131072, .f32⟩
  | 13 => ⟨S8x32x131072, .f32⟩
  | 14 => ⟨S32x32, .i32⟩
  | 15 => ⟨S32x32, .i32⟩
  | 16 => ⟨S_, .i32⟩
  | 17 => ⟨S32x32, .i32⟩
  | 18 => ⟨S32x32, .i32⟩
  | 19 => ⟨S32x32, .i1⟩
  | 20 => ⟨S32x32, .f32⟩
  | 21 => ⟨S8x32x32, .f32⟩
  | 22 => ⟨S_, .f32⟩
  | 23 => ⟨S32x32, .f32⟩
  | 24 => ⟨S32x32, .f32⟩
  | 25 => ⟨S1x32x32, .f32⟩
  | 26 => ⟨S8x32x32, .f32⟩
  | 27 => ⟨S8x32x32, .f32⟩
  | 28 => ⟨S32x32, .i32⟩
  | 29 => ⟨S32x32, .i32⟩
  | 30 => ⟨S32x32, .i1⟩
  | 31 => ⟨S8x32x32, .i1⟩
  | 32 => ⟨S_, .f32⟩
  | 33 => ⟨S8x32x32, .f32⟩
  | 34 => ⟨S8x32x32, .f32⟩
  | 35 => ⟨S_, .f32⟩
  | 36 => ⟨S8, .f32⟩
  | 37 => ⟨S8x1x1, .f32⟩
  | 38 => ⟨S_, .f32⟩
  | 39 => ⟨S8x1x1, .f32⟩
  | 40 => ⟨S8x1x1, .f32⟩
  | 41 => ⟨S8x1x1, .f32⟩
  | 42 => ⟨S1x32x32, .f32⟩
  | 43 => ⟨S8x32x32, .f32⟩
  | 44 => ⟨S8x32x32, .f32⟩
  | 45 => ⟨S8x32x32, .f32⟩
  | 46 => ⟨S8x32x32, .f32⟩
  | 47 => ⟨S_, .f32⟩
  | 48 => ⟨S8x32x32, .f32⟩
  | 49 => ⟨S8x32x32, .f32⟩
  | 50 => ⟨S8x32x32, .f32⟩
  | 51 => ⟨S8x32x32, .f32⟩
  | 52 => ⟨S8x32x32, .f32⟩
  | 53 => ⟨S_, .f32⟩
  | 54 => ⟨S8x32x32, .f32⟩
  | 55 => ⟨S8x32x32, .f32⟩
  | 56 => ⟨S8x32x32, .f32⟩
  | 57 => ⟨S_, .f32⟩
  | 58 => ⟨S8x32x32, .f32⟩
  | 59 => ⟨S8x32x32, .f32⟩
  | 60 => ⟨S8x32x32, .f32⟩
  | 61 => ⟨S8x32x32, .f32⟩
  | 62 => ⟨S8x32x32, .f32⟩
  | 63 => ⟨S_, .f32⟩
  | 64 => ⟨S8x32x32, .f32⟩
  | 65 => ⟨S8x32x32, .f32⟩
  | 66 => ⟨S8x32x32, .f32⟩
  | 67 => ⟨S_, .f32⟩
  | 68 => ⟨S8x32x32, .f32⟩
  | 69 => ⟨S8x32x32, .f32⟩
  | 70 => ⟨S8x32x32, .f32⟩
  | 71 => ⟨S8x32x32, .f32⟩
  | 72 => ⟨S8x32x32, .f32⟩
  | 73 => ⟨S_, .f32⟩
  | 74 => ⟨S8x32x32, .f32⟩
  | 75 => ⟨S8x32x32, .f32⟩
  | 76 => ⟨S8x32x32, .f32⟩
  | 77 => ⟨S_, .f32⟩
  | 78 => ⟨S8x32x32, .f32⟩
  | 79 => ⟨S8x32x32, .f32⟩
  | 80 => ⟨S8x32x32, .f32⟩
  | 81 => ⟨S8x32x32, .f32⟩
  | 82 => ⟨S8x32x32, .f32⟩
  | 83 => ⟨S_, .f32⟩
  | 84 => ⟨S8x32x32, .f32⟩
  | 85 => ⟨S8x32x32, .f32⟩
  | 86 => ⟨S8x32x32, .f32⟩
  | 87 => ⟨S_, .f32⟩
  | 88 => ⟨S8x32x32, .f32⟩
  | 89 => ⟨S8x32x32, .f32⟩
  | 90 => ⟨S8x32x32, .f32⟩
  | 91 => ⟨S8x32x32, .f32⟩
  | 92 => ⟨S8x32x32, .f32⟩
  | 93 => ⟨S_, .f32⟩
  | 94 => ⟨S8x32x32, .f32⟩
  | 95 => ⟨S8x32x32, .f32⟩
  | 96 => ⟨S8x32x32, .f32⟩
  | 97 => ⟨S_, .f32⟩
  | 98 => ⟨S8x32x32, .f32⟩
  | 99 => ⟨S8x32x32, .f32⟩
  | 100 => ⟨S8x32x32, .f32⟩
  | 101 => ⟨S8x32x32, .f32⟩
  | 102 => ⟨S8x32x32, .f32⟩
  | 103 => ⟨S_, .f32⟩
  | 104 => ⟨S8x32x32, .f32⟩
  | 105 => ⟨S8x32x32, .f32⟩
  | 106 => ⟨S8x32x32, .f32⟩
  | 107 => ⟨S_, .f32⟩
  | 108 => ⟨S8x32x32, .f32⟩
  | 109 => ⟨S8x32x32, .f32⟩
  | 110 => ⟨S8x32x32, .f32⟩
  | 111 => ⟨S8x32x32, .f32⟩
  | 112 => ⟨S8x32x32, .f32⟩
  | 113 => ⟨S_, .f32⟩
  | 114 => ⟨S8x32x32, .f32⟩
  | 115 => ⟨S8x32x32, .f32⟩
  | 116 => ⟨S8x32x32, .f32⟩
  | 117 => ⟨S_, .f32⟩
  | 118 => ⟨S8x32x32, .f32⟩
  | 119 => ⟨S8x32x32, .f32⟩
  | 120 => ⟨S8x32x32, .f32⟩
  | 121 => ⟨S8x32x32, .f32⟩
  | 122 => ⟨S8x32x32, .f32⟩
  | 123 => ⟨S_, .f32⟩
  | 124 => ⟨S8x32x32, .f32⟩
  | 125 => ⟨S8x32x32, .f32⟩
  | 126 => ⟨S8x32x131072, .f32⟩
  | 127 => ⟨S256x32x64x64, .f32⟩
  | _ => ⟨S32x256x64x64, .f32⟩

abbrev hbmTy0_1 (i : Nat) : BufTy := match i % 128 with
  | 0 => ⟨S32x256x64x64, .f32⟩
  | 1 => ⟨S32x256x64x64, .f32⟩
  | 2 => ⟨S32x256x64x64, .f32⟩
  | 3 => ⟨S32x256x64x64, .f32⟩
  | 4 => ⟨S32x256x64x64, .f32⟩
  | _ => ⟨S32x256x64x64, .f32⟩

abbrev hbmTy (i : Nat) : BufTy := match i / 128 with
  | 0 => hbmTy0_0 i
  | 1 => hbmTy0_1 i
  | _ => ⟨S32x256x64x64, .f32⟩

abbrev bufTy : (tb : Table) → Fin (tcTables nBuf tb) → BufTy
  | .hbm, ⟨i, _⟩ => hbmTy i
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_13 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_14 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_15 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_16 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_17 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_18 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_19 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_20 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩

abbrev nD : Nat := 1
abbrev τ : Topo := Topo.v7x

variable {F : FTy → Type} [FloatOps F]
-- ==== Proof.KernelRun.lean ====
/- The idealized kernel's run: after the host's reshapes, the statistics region, the application region and the last
   reshape, the result buffer holds what the last boundary's contents say, and the arguments are as launched. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Value
public import Idealize.ShloMosaic.Lib.StableHlo.Run

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN: from any memory with the counters at zero the program terminates, its result buffer at the last boundary's
    contents and its arguments as launched. -/
theorem run : θ_run defs (onTc (τ := τ) (main (F := F))) ⟨m, fun _ => 0, ρ⟩ fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

/-- The result is the application region's array, its pixels split into rows and columns. -/
theorem result_eq (c : Dev nD) : W4 m ρ c (Proc.devRef .tc main_v5)
    = shapeCast S32x256x64x64 ((dat1 (V2 m ρ) c).arrAt 4 cfg1.N) shapeCasts_S32x256x4096_S32x256x64x64 := by
  rw [← W3_arr m ρ c 4]
  show StableHlo.after hostOps2 (W3 m ρ c) _ = _
  unfold hostOps2
  after_results
  rfl

/-- At the statistics region's entry the activations are the first argument, rows and columns merged. -/
theorem entry_x (c : Dev nD) : V1 m ρ c main_v0
    = shapeCast S32x256x4096 (m ((c : Thread nD τ).loc main_arg0)) shapeCasts_S32x256x64x64_S32x256x4096 := by
  show StableHlo.after hostOps0 (W0 m ρ c) _ = _
  unfold hostOps0
  after_results
  rfl

/-- At its entry the weights are the second argument, by group. -/
theorem entry_w (c : Dev nD) : V1 m ρ c main_v1
    = shapeCast S8x32x1 (m ((c : Thread nD τ).loc main_arg1)) shapeCasts_S1x256x1x1_S8x32x1 := by
  show StableHlo.after hostOps0 (W0 m ρ c) _ = _
  unfold hostOps0
  after_results
  rfl

/-- At its entry the biases are the third argument, by group. -/
theorem entry_b (c : Dev nD) : V1 m ρ c main_v2
    = shapeCast S8x32x1 (m ((c : Thread nD τ).loc main_arg2)) shapeCasts_S1x256x1x1_S8x32x1 := by
  show StableHlo.after hostOps0 (W0 m ρ c) _ = _
  unfold hostOps0
  after_results
  rfl

/-- At the application region's entry the activations are still those of the first region's entry. -/
theorem mid_x (c : Dev nD) : V2 m ρ c main_v0 = V1 m ρ c main_v0 := W2_of m ρ c main_v0 (by decide +kernel)
/-- At its entry the matrix is what the statistics region wrote. -/
theorem mid_off (c : Dev nD) : V2 m ρ c main_v3_0 = (dat0 (V1 m ρ) c).arrAt 3 cfg0.N := W2_arr m ρ c 3
/-- At its entry the diagonal is what the statistics region wrote. -/
theorem mid_gamma (c : Dev nD) : V2 m ρ c main_v3_1 = (dat0 (V1 m ρ) c).arrAt 4 cfg0.N := W2_arr m ρ c 4
/-- At its entry the shift is what the statistics region wrote. -/
theorem mid_beta (c : Dev nD) : V2 m ρ c main_v3_2 = (dat0 (V1 m ρ) c).arrAt 5 cfg0.N := W2_arr m ρ c 5

end Cert.KernelIdeal.Whole

end
-- ==== Proof.Whiten.lean ====
/- The real-number mathematics of group whitening: the two ways of writing the covariance, the two ways of
   iterating towards its inverse square root, and the two ways of applying the result, each pair shown equal. -/
module

public import Mathlib.Data.Matrix.Mul
public import Mathlib.LinearAlgebra.Matrix.Trace
public import Idealize.ShloMosaic.PureOps.Ideal
public import Mathlib.Tactic.Ring
public import Mathlib.Tactic.Linarith
public import Mathlib.Tactic.FieldSimp
public import Mathlib.Tactic.NoncommRing
public import Mathlib.Tactic.Positivity
public import Mathlib.Tactic.LinearCombination

@[expose] public section

noncomputable section

namespace Cert.Whiten

/-- A square matrix over the 32 channels of one group. -/
abbrev Mat := Matrix (Fin 32) (Fin 32) ℝ
/-- One group's activations, by image, channel and pixel. -/
abbrev Blk := Fin 32 → Fin 32 → Fin 4096 → ℝ

/-- The regulariser: the value of the single-precision number nearest to 1e-05. -/
def eps : ℝ := 10995116 / 1099511627776

/-- The sum of a channel over pixels and images. -/
def sum1 (f : Blk) (c : Fin 32) : ℝ := ∑ p, ∑ b, f b c p

/-- The mean of a channel over all images and pixels. -/
def mean (f : Blk) (c : Fin 32) : ℝ := (∑ b, ∑ p, f b c p) * (131072 : ℝ)⁻¹

/-- A channel with its mean taken off. -/
def centred (f : Blk) (b c : Fin 32) (p : Fin 4096) : ℝ := f b c p - mean f c

/-- The covariance by raw moments: the second moment less the product of the first ones over the count. -/
def covK (f : Blk) : Mat :=
  (Matrix.of fun c d => (∑ b, ∑ p, f b c p * f b d p) - sum1 f c * sum1 f d * (1 / 131072)) + eps • (1 : Mat)

/-- The covariance of the centred activations. -/
def covR (f : Blk) : Mat :=
  (Matrix.of fun c d => ∑ b, ∑ p, centred f b c p * centred f b d p) + eps • (1 : Mat)

theorem sum1_eq (f : Blk) (c : Fin 32) : sum1 f c = ∑ b, ∑ p, f b c p := Finset.sum_comm

/-- Centring two families before multiplying subtracts the product of their sums over the count. -/
theorem centred_moment {ι : Type} [Fintype ι] (u v : ι → ℝ) (N : ℝ) (hN : (Fintype.card ι : ℝ) = N) (h0 : N ≠ 0) :
    ∑ i, (u i - (∑ j, u j) * N⁻¹) * (v i - (∑ j, v j) * N⁻¹) = (∑ i, u i * v i) - (∑ i, u i) * (∑ i, v i) * (1 / N) := by
  have e : ∀ i, (u i - (∑ j, u j) * N⁻¹) * (v i - (∑ j, v j) * N⁻¹)
      = u i * v i - u i * ((∑ j, v j) * N⁻¹) - ((∑ j, u j) * N⁻¹) * v i + ((∑ j, u j) * N⁻¹) * ((∑ j, v j) * N⁻¹) :=
    fun i => by ring
  simp only [e]
  rw [Finset.sum_add_distrib, Finset.sum_sub_distrib, Finset.sum_sub_distrib, ← Finset.sum_mul, ← Finset.mul_sum,
    Finset.sum_const, Finset.card_univ, nsmul_eq_mul, hN]
  field_simp
  ring

/-- The two covariances are one matrix. -/
theorem cov_eq (f : Blk) : covK f = covR f := by
  unfold covK covR
  congr 1
  ext c d
  have h := centred_moment (ι := Fin 32 × Fin 4096) (fun i => f i.1 c i.2) (fun i => f i.1 d i.2) 131072
    (by simp) (by norm_num)
  simp only [Fintype.sum_prod_type] at h
  simp only [Matrix.of_apply, sum1_eq, centred, mean]
  exact h.symm

theorem eps_pos : 0 < eps := by unfold eps; norm_num

/-- The trace of the covariance is positive. -/
theorem trace_pos (f : Blk) : 0 < (covR f).trace := by
  unfold covR
  rw [Matrix.trace_add, Matrix.trace_smul, Matrix.trace_one]
  have h : 0 ≤ (Matrix.of fun c d => ∑ b, ∑ p, centred f b c p * centred f b d p : Mat).trace :=
    Finset.sum_nonneg fun c _ => by
      rw [Matrix.diag_apply, Matrix.of_apply]
      exact Finset.sum_nonneg fun b _ => Finset.sum_nonneg fun p _ => mul_self_nonneg _
  have h' := eps_pos
  simp only [Fintype.card_fin, smul_eq_mul]
  push_cast
  linarith

/-- The correction factor of one coupled step. -/
def corr (Y Z : Mat) : Mat := (3 / 2 : ℝ) • (1 : Mat) - (1 / 2 : ℝ) • (Z * Y)

/-- One coupled step: both factors are multiplied by the correction. -/
def next (P : Mat × Mat) : Mat × Mat := (P.1 * corr P.1 P.2, corr P.1 P.2 * P.2)

/-- The coupled iteration from `(A, 1)`. -/
def coupled (A : Mat) : ℕ → Mat × Mat
  | 0 => (A, 1)
  | k + 1 => next (coupled A k)

/-- One plain Newton step towards the inverse square root of `σ`. -/
def newtonStep (σ S : Mat) : Mat := (1 / 2 : ℝ) • ((3 : ℝ) • S - σ * (S * S) * S)

/-- The plain Newton iteration. -/
def newton (σ S₀ : Mat) : ℕ → Mat
  | 0 => S₀
  | k + 1 => newtonStep σ (newton σ S₀ k)

/-- Along the coupled iteration the first factor stays `A` times the second, which commutes with `A`. -/
theorem coupled_inv (A : Mat) : ∀ k, (coupled A k).1 = A * (coupled A k).2 ∧ Commute A (coupled A k).2
  | 0 => ⟨(mul_one A).symm, Commute.one_right A⟩
  | k + 1 => by
    obtain ⟨h, hc⟩ := coupled_inv A k
    simp only [coupled, next]
    rw [h]
    generalize (coupled A k).2 = Z at hc
    have hT : Commute A (corr (A * Z) Z) := by
      unfold corr
      exact ((Commute.one_right A).smul_right _).sub_right ((hc.mul_right ((Commute.refl A).mul_right hc)).smul_right _)
    have hTZ : Commute Z (corr (A * Z) Z) := by
      unfold corr
      exact ((Commute.one_right Z).smul_right _).sub_right
        (((Commute.refl Z).mul_right (hc.symm.mul_right (Commute.refl Z))).smul_right _)
    exact ⟨by rw [mul_assoc, hTZ.eq], hT.mul_right hc⟩

/-- The plain iteration from a multiple of the identity is that multiple of the coupled iteration's second factor,
    when the matrix is scaled accordingly. -/
theorem newton_eq (A : Mat) (r c : ℝ) (h : r * r * c = 1) :
    ∀ k, newton (c • A) (r • (1 : Mat)) k = r • (coupled A k).2
  | 0 => rfl
  | k + 1 => by
    obtain ⟨hY, hc⟩ := coupled_inv A k
    simp only [newton, coupled, next]
    rw [newton_eq A r c h k, hY]
    generalize (coupled A k).2 = Z at hc
    unfold newtonStep corr
    have e1 : (c • A) * ((r • Z) * (r • Z)) * (r • Z) = r • (A * (Z * Z) * Z) := by
      simp only [Matrix.smul_mul, Matrix.mul_smul, smul_smul]
      congr 1
      linear_combination r * h
    have e2 : Z * (A * Z) * Z = A * (Z * Z) * Z := by
      rw [← mul_assoc, ← hc.eq, mul_assoc A Z Z]
    rw [e1]
    rw [sub_mul, Matrix.smul_mul, Matrix.smul_mul, one_mul, e2, smul_sub, smul_sub, smul_smul, smul_smul, smul_smul,
      smul_smul, smul_smul]
    congr 2 <;> ring

/-- The covariance scaled to trace 32. -/
def scaled (σ : Mat) : Mat := ((32 : ℝ) * σ.trace⁻¹) • σ

/-- The kernel's whitening matrix: the coupled iteration's second factor over the root of the mean eigenvalue. -/
def whitenK (σ : Mat) : Mat := ((Real.sqrt (σ.trace * (32 : ℝ)⁻¹))⁻¹) • (coupled (scaled σ) 8).2

/-- The reference's whitening matrix: eight plain steps from the root of the mean eigenvalue. -/
def whitenR (σ : Mat) : Mat := newton σ ((Real.sqrt (σ.trace * (32 : ℝ)⁻¹))⁻¹ • (1 : Mat)) 8

/-- The two whitening matrices are equal when the trace is positive. -/
theorem whiten_eq (σ : Mat) (h : 0 < σ.trace) : whitenK σ = whitenR σ := by
  have hs : (Real.sqrt (σ.trace * (32 : ℝ)⁻¹))⁻¹ * (Real.sqrt (σ.trace * (32 : ℝ)⁻¹))⁻¹ * (σ.trace * (32 : ℝ)⁻¹) = 1 := by
    have h1 : 0 < σ.trace * (32 : ℝ)⁻¹ := by positivity
    have h2 := Real.mul_self_sqrt h1.le
    have h3 : Real.sqrt (σ.trace * (32 : ℝ)⁻¹) ≠ 0 := (Real.sqrt_pos.mpr h1).ne'
    rw [← mul_inv, h2]
    exact inv_mul_cancel₀ h1.ne'
  have e : σ = (σ.trace * (32 : ℝ)⁻¹) • scaled σ := by
    unfold scaled
    rw [smul_smul]
    have : σ.trace * (32 : ℝ)⁻¹ * (32 * σ.trace⁻¹) = 1 := by field_simp
    rw [this, one_smul]
  unfold whitenK whitenR
  rw [← newton_eq (scaled σ) _ _ hs 8, ← e]

/-- Applying the scaled matrix split in its diagonal, its rest and a shift is applying it to the centred values. -/
theorem apply_eq (W : Mat) (w : ℝ) (x m : Fin 32 → ℝ) (c : Fin 32) :
    (∑ e, w * W c e * (1 : Mat) c e) * x c + (∑ e, w * W c e * (1 - (1 : Mat) c e) * x e) - (∑ e, w * W c e * m e)
      = (∑ e, W c e * (x e - m e)) * w := by
  have h1 : ∑ e, w * W c e * (1 : Mat) c e = w * W c c := by
    rw [Finset.sum_eq_single c]
    · rw [Matrix.one_apply_eq, mul_one]
    · intro b _ hb; rw [Matrix.one_apply_ne (Ne.symm hb), mul_zero]
    · intro h; exact absurd (Finset.mem_univ c) h
  have h2 : ∑ e, w * W c e * (1 - (1 : Mat) c e) * x e = (∑ e, w * W c e * x e) - w * W c c * x c := by
    have : ∀ e, w * W c e * (1 - (1 : Mat) c e) * x e = w * W c e * x e - (w * W c e * (1 : Mat) c e) * x e := fun e => by ring
    simp only [this]
    rw [Finset.sum_sub_distrib]
    congr 1
    rw [Finset.sum_eq_single c]
    · rw [Matrix.one_apply_eq, mul_one]
    · intro b _ hb; rw [Matrix.one_apply_ne (Ne.symm hb), mul_zero, zero_mul]
    · intro h; exact absurd (Finset.mem_univ c) h
  rw [h1, h2, Finset.sum_mul]
  have h3 : ∀ e, W c e * (x e - m e) * w = w * W c e * x e - w * W c e * m e := fun e => by ring
  simp only [h3]
  rw [Finset.sum_sub_distrib]
  ring

/-- The channel of a group. -/
def chan (g : Fin 8) (c : Fin 32) : Fin 256 := ⟨g.val * 32 + c.val, by omega⟩

/-- The activations of one group. -/
def part (x : Fin 32 → Fin 256 → Fin 4096 → ℝ) (g : Fin 8) : Blk := fun b c p => x b (chan g c) p

/-- The pixel of a row and a column. -/
def pixel (h w : Fin 64) : Fin 4096 := ⟨h.val * 64 + w.val, by omega⟩

/-- The group of a channel. -/
def grpOf (k : Fin 256) : Fin 8 := ⟨k.val / 32, by omega⟩
/-- The place of a channel in its group. -/
def locOf (k : Fin 256) : Fin 32 := ⟨k.val % 32, by omega⟩
theorem grpOf_chan (g : Fin 8) (c : Fin 32) : grpOf (chan g c) = g := Fin.ext (by simp only [grpOf, chan]; omega)
theorem locOf_chan (g : Fin 8) (c : Fin 32) : locOf (chan g c) = c := Fin.ext (by simp only [locOf, chan]; omega)
theorem chan_of (k : Fin 256) : chan (grpOf k) (locOf k) = k := Fin.ext (by simp only [grpOf, locOf, chan]; omega)

/-- The whitened and rescaled activation of image `n`, channel `k`, pixel `p`, before the bias. -/
def target (x : Fin 32 → Fin 256 → Fin 4096 → ℝ) (w : Fin 256 → ℝ) (n : Fin 32) (k : Fin 256) (p : Fin 4096) : ℝ :=
  (∑ e, whitenR (covR (part x (grpOf k))) (locOf k) e * centred (part x (grpOf k)) n e p) * w k

/-- The mean as the kernel takes it. -/
theorem mean_eq (f : Blk) (e : Fin 32) : sum1 f e * (1 / 131072) = mean f e := by
  rw [sum1_eq, one_div]; rfl

/-- Diagonal and off-diagonal weights applied to the raw activations, less the folded means, give that value. -/
theorem folded_eq (x : Fin 32 → Fin 256 → Fin 4096 → ℝ) (w : Fin 256 → ℝ) (n : Fin 32) (k : Fin 256) (p : Fin 4096) :
    (∑ e, w k * whitenK (covK (part x (grpOf k))) (locOf k) e * (1 : Mat) (locOf k) e) * x n k p
      + (∑ e, w k * whitenK (covK (part x (grpOf k))) (locOf k) e * (1 - (1 : Mat) (locOf k) e) * x n (chan (grpOf k) e) p)
      - (∑ e, w k * whitenK (covK (part x (grpOf k))) (locOf k) e * (sum1 (part x (grpOf k)) e * (1 / 131072)))
      = target x w n k p := by
  have h := apply_eq (whitenK (covK (part x (grpOf k)))) (w k) (fun e => x n (chan (grpOf k) e) p)
    (fun e => sum1 (part x (grpOf k)) e * (1 / 131072)) (locOf k)
  simp only [chan_of] at h
  rw [h, cov_eq, whiten_eq _ (trace_pos _)]
  unfold target
  refine congrArg (fun r => r * w k) (Finset.sum_congr rfl fun e _ => ?_)
  rw [mean_eq]
  rfl

end Cert.Whiten

end
-- ==== Proof.Consts.lean ====
/- The single-precision constants of the two programs as real numbers, and sums of reals as extended reals. -/
module

public import Idealize.ShloMosaic.PureOps.Ideal
public import Idealize.ShloMosaic.Lib.IdealHost
public import proofs.«01_k».proof.Proof.Whiten

@[expose] public section

noncomputable section

namespace Cert.Consts

open Idealize.ShloMosaic

/-- The word for one half. -/
theorem half : Ideal.ofBits .f32 0x3F000000#32 = ((1 / 2 : ℝ) : EReal) := by
  simp [Ideal.ofBits, Ideal.ieee, -EReal.coe_mul]; norm_num
/-- The word for three halves. -/
theorem threeHalves : Ideal.ofBits .f32 0x3FC00000#32 = ((3 / 2 : ℝ) : EReal) := by
  simp [Ideal.ofBits, Ideal.ieee, -EReal.coe_mul]; norm_num
/-- The word for three. -/
theorem three : Ideal.ofBits .f32 0x40400000#32 = ((3 : ℝ) : EReal) := by
  simp [Ideal.ofBits, Ideal.ieee, -EReal.coe_mul]; norm_num
/-- The word for thirty-two. -/
theorem thirtyTwo : Ideal.ofBits .f32 0x42000000#32 = ((32 : ℝ) : EReal) := by
  simp [Ideal.ofBits, Ideal.ieee, -EReal.coe_mul]; norm_num
/-- The word for the count of images and pixels. -/
theorem count : Ideal.ofBits .f32 0x48000000#32 = ((131072 : ℝ) : EReal) := by
  simp [Ideal.ofBits, Ideal.ieee, -EReal.coe_mul]; norm_num
/-- The word for the count's reciprocal, which is exact. -/
theorem countInv : Ideal.ofBits .f32 0x37000000#32 = ((1 / 131072 : ℝ) : EReal) := by
  simp [Ideal.ofBits, Ideal.ieee, -EReal.coe_mul]; norm_num
/-- The word for the regulariser. -/
theorem eps : Ideal.ofBits .f32 0x3727C5AC#32 = ((Whiten.eps : ℝ) : EReal) := by
  unfold Whiten.eps
  simp [Ideal.ofBits, Ideal.ieee, -EReal.coe_mul]; norm_num
/-- The word for infinity. -/
theorem inf : Ideal.ofBits .f32 0x7F800000#32 = (⊤ : EReal) := by
  simp [Ideal.ofBits, Ideal.ieee]

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Consts

end
-- ==== Proof.Block.lean ====
/- What one block of the statistics kernel computes, over the reals: the operations of its body on matrices and
   activations whose entries are reals. -/
module

public import proofs.«01_k».proof.Proof.Gen.KernelIdeal.Skeleton
public import proofs.«01_k».proof.Proof.Consts
public import Idealize.ShloMosaic.Lib.Pointwise

@[expose] public section

set_option maxRecDepth 16384

noncomputable section

namespace Cert.KernelIdeal.Block

open Cert.KernelIdeal Cert.KernelIdeal.Gen
open Idealize.ShloMosaic Idealize.ShloMosaic.TcCoe
open Cert.Whiten

/-- A real matrix as a vector of extended reals. -/
def mat (M : Mat) : FVec Ideal S32x32 .f32 := fun i => ((M (i 0) (i 1) : ℝ) : EReal)
/-- A real block of activations as a vector of extended reals. -/
def blk (f : Blk) : FVec Ideal S32x32x4096 .f32 := fun i => ((f (i 0) (i 1) (i 2) : ℝ) : EReal)
/-- A real column as a vector of extended reals. -/
def col (v : Fin 32 → ℝ) : FVec Ideal S32x1 .f32 := fun i => ((v (i 0) : ℝ) : EReal)
/-- A real row as a vector of extended reals. -/
def row (v : Fin 32 → ℝ) : FVec Ideal S1x32 .f32 := fun i => ((v (i 1) : ℝ) : EReal)
/-- A real number as a one-element vector of extended reals. -/
def one1 (r : ℝ) : FVec Ideal S1x1 .f32 := fun _ => (r : EReal)

/-- The comparison of a row number with a column number, as a bit. -/
theorem eye_bit : ∀ a b : Fin 32,
    IntOp.cmpi .eq (IntOp.addi (BitVec.ofNat 32 (a : ℕ)) 0#32) (BitVec.ofNat 32 (b : ℕ)) = if a = b then 1#1 else 0#1 := by
  decide +kernel

/-- The identity the kernel builds from row and column numbers is the identity matrix. -/
theorem eye_eq : k0_pay5 (F := Ideal) = mat 1 := by
  funext i
  idx_vars i
  pointwise [k0_pay5, mat]
  rw [eye_bit]
  show ((((BitVec.setWidth 32 (if i0 = i1 then 1#1 else 0#1)).toInt : ℝ)) : EReal) = (((1 : Mat) i0 i1 : ℝ) : EReal)
  by_cases h : i0 = i1
  · rw [if_pos h, h, Matrix.one_apply_eq]; norm_num
  · rw [if_neg h, Matrix.one_apply_ne h]; norm_num

/-- The matrix unit's product of two real matrices is their product. -/
theorem matmul_mat (A B : Mat) :
    matmul dot_S32x32_S32x32_S32x32_1_0_0_1_n_n (some .fp32) (mat A) (mat B) (constant S32x32 .f32 0x00000000#32) = mat (A * B) := by
  funext i
  idx_vars i
  pointwise [mat]
  rw [Matrix.mul_apply, Consts.coe_sum]
  simp only [EReal.coe_mul]

/-- A constant times a real matrix. -/
theorem scale_mat (w : BitVec 32) (r : ℝ) (h : Ideal.ofBits .f32 w = (r : EReal)) (A : Mat) :
    mulf (broadcast S32x32 (Scalar.ofBits (F := Ideal) .f32 w)) (mat A) = mat (r • A) := by
  funext i
  idx_vars i
  pointwise [mat, h]
  rw [Matrix.smul_apply, smul_eq_mul, EReal.coe_mul]

/-- The difference of two real matrices. -/
theorem sub_mat (A B : Mat) : subf (mat A) (mat B) = mat (A - B) := by
  funext i
  idx_vars i
  pointwise [mat]
  rw [Matrix.sub_apply, EReal.coe_sub]

/-- A one-element vector broadcast times a real matrix, the matrix first. -/
theorem mul_one1 (A : Mat) (r : ℝ) : mulf (mat A) (broadcastTo S32x32 (one1 r) broadcasts_S1x1_S32x32) = mat (r • A) := by
  funext i
  idx_vars i
  pointwise [mat, one1]
  rw [Matrix.smul_apply, smul_eq_mul, EReal.coe_mul, mul_comm]

/-- The column of a block's sums. -/
theorem sum_eq (f : Blk) : k0_pay6 (F := Ideal) (blk f) = col (sum1 f) := by
  funext i
  idx_vars i
  pointwise [k0_pay6, k0_pay4, blk, col]
  unfold sum1
  simp only [Consts.coe_sum]

/-- The row of a block's sums. -/
theorem sum_row (f : Blk) : k0_pay7 (F := Ideal) (blk f) = row (sum1 f) := by
  unfold k0_pay7
  rw [sum_eq]
  funext i
  idx_vars i
  pointwise [col, row]

/-- The block's covariance by raw moments. -/
theorem cov_block (f : Blk) : k0_pay8 (F := Ideal) (blk f) = mat (covK f) := by
  unfold k0_pay8
  rw [sum_row, sum_eq, eye_eq]
  funext i
  idx_vars i
  pointwise [k0_pay4, mat, col, row, blk]
  show _ + Ideal.ofBits .f32 0x3727C5AC#32 * (((1 : Mat) i0 i1 : ℝ) : EReal) = _
  rw [Consts.countInv, Consts.eps]
  unfold covK
  rw [Matrix.add_apply, Matrix.smul_apply, Matrix.of_apply, smul_eq_mul]
  simp only [Consts.coe_sum, EReal.coe_add, EReal.coe_sub, EReal.coe_mul]

/-- The trace of a real matrix as the kernel takes it. -/
theorem trace_block (f : Blk) : k0_pay9 (F := Ideal) (blk f) = one1 (covK f).trace := by
  unfold k0_pay9
  rw [cov_block, eye_eq]
  funext i
  idx_vars i
  pointwise [mat, one1]
  show ∑ x, ∑ y, ((covK f x y : ℝ) : EReal) * (((1 : Mat) x y : ℝ) : EReal) = _
  simp only [← EReal.coe_mul, ← Consts.coe_sum]
  congr 1
  refine Finset.sum_congr rfl fun x _ => ?_
  rw [Finset.sum_eq_single x, Matrix.one_apply_eq, mul_one]
  · rfl
  · intro y _ h; rw [Matrix.one_apply_ne (Ne.symm h), mul_zero]
  · intro h; exact absurd (Finset.mem_univ x) h

/-- The quotient of the constant thirty-two by a nonzero one-element vector. -/
theorem div32 (r : ℝ) (h : r ≠ 0) :
    divf (broadcast S1x1 (Scalar.ofBits (F := Ideal) .f32 0x42000000#32)) (one1 r) = one1 (32 * r⁻¹) := by
  funext i
  idx_vars i
  pointwise [one1]
  rw [Consts.thirtyTwo, Ideal.div_coe h, EReal.coe_mul, one_div]

/-- A one-element vector over the constant thirty-two. -/
theorem over32 (r : ℝ) :
    divf (one1 r) (broadcast S1x1 (Scalar.ofBits (F := Ideal) .f32 0x42000000#32)) = one1 (r * (32 : ℝ)⁻¹) := by
  funext i
  idx_vars i
  pointwise [one1]
  rw [Consts.thirtyTwo, Ideal.div_coe (by norm_num), EReal.coe_mul, one_div]

/-- The reciprocal root of a positive one-element vector. -/
theorem rsqrt1 (r : ℝ) (h : 0 < r) : rsqrt (one1 r) = one1 (Real.sqrt r)⁻¹ := by
  funext i
  idx_vars i
  pointwise [one1]
  rw [Ideal.rsqrt_coe, if_neg h.not_gt, if_neg h.ne']

/-- The correction factor of one step. -/
theorem corr_vec (Y Z : Mat) :
    subf (mulf (broadcast S32x32 (Scalar.ofBits (F := Ideal) .f32 0x3FC00000#32)) (mat 1))
      (mulf (broadcast S32x32 (Scalar.ofBits (F := Ideal) .f32 0x3F000000#32))
        (matmul dot_S32x32_S32x32_S32x32_1_0_0_1_n_n (some .fp32) (mat Z) (mat Y) (constant S32x32 .f32 0x00000000#32)))
      = mat (corr Y Z) := by
  rw [matmul_mat, scale_mat _ _ Consts.threeHalves, scale_mat _ _ Consts.half, sub_mat]
  rfl

/-- The covariance scaled to trace thirty-two. -/
theorem scaled_block (f : Blk) (h : (covK f).trace ≠ 0) : k0_pay10 (F := Ideal) (blk f) = mat (scaled (covK f)) := by
  unfold k0_pay10; dsimp only
  rw [cov_block, trace_block, div32 _ h, mul_one1]
  rfl

section Steps
variable (f : Blk) (h : (covK f).trace ≠ 0)
include h

theorem corr1_block : k0_pay11 (F := Ideal) (blk f) = mat (corr (scaled (covK f)) 1) := by
  unfold k0_pay11; dsimp only
  rw [scaled_block f h, eye_eq, corr_vec]

/-- The first factor after one step. -/
theorem first_block : k0_pay12 (F := Ideal) (blk f) = mat (coupled (scaled (covK f)) 1).1 := by
  unfold k0_pay12; dsimp only
  rw [scaled_block f h, corr1_block f h, matmul_mat]
  rfl

/-- The second factor after one step. -/
theorem second_block : k0_pay13 (F := Ideal) (blk f) = mat (coupled (scaled (covK f)) 1).2 := by
  unfold k0_pay13; dsimp only
  rw [corr1_block f h, eye_eq, matmul_mat]
  rfl

end Steps

section Middle
variable (P : Mat × Mat)

theorem p14 : k0_pay14 (F := Ideal) (mat 1) (mat P.1) (mat P.2) = mat (corr P.1 P.2) := by
  unfold k0_pay14; dsimp only; exact corr_vec _ _
theorem p15 : k0_pay15 (F := Ideal) (mat 1) (mat P.1) (mat P.2) = mat (next P).1 := by
  unfold k0_pay15; dsimp only; rw [p14, matmul_mat]; rfl
theorem p16 : k0_pay16 (F := Ideal) (mat 1) (mat P.1) (mat P.2) = mat (next P).2 := by
  unfold k0_pay16; dsimp only; rw [p14, matmul_mat]; rfl
theorem p17 : k0_pay17 (F := Ideal) (mat 1) (mat P.1) (mat P.2) = mat (corr (next P).1 (next P).2) := by
  unfold k0_pay17; dsimp only; rw [p15, p16]; exact corr_vec _ _
theorem p18 : k0_pay18 (F := Ideal) (mat 1) (mat P.1) (mat P.2) = mat (next (next P)).1 := by
  unfold k0_pay18; dsimp only; rw [p15, p17, matmul_mat]; rfl
theorem p19 : k0_pay19 (F := Ideal) (mat 1) (mat P.1) (mat P.2) = mat (next (next P)).2 := by
  unfold k0_pay19; dsimp only; rw [p16, p17, matmul_mat]; rfl
theorem p20 : k0_pay20 (F := Ideal) (mat 1) (mat P.1) (mat P.2) = mat (corr (next (next P)).1 (next (next P)).2) := by
  unfold k0_pay20; dsimp only; rw [p18, p19]; exact corr_vec _ _
theorem p21 : k0_pay21 (F := Ideal) (mat 1) (mat P.1) (mat P.2) = mat (next (next (next P))).1 := by
  unfold k0_pay21; dsimp only; rw [p18, p20, matmul_mat]; rfl
theorem p22 : k0_pay22 (F := Ideal) (mat 1) (mat P.1) (mat P.2) = mat (next (next (next P))).2 := by
  unfold k0_pay22; dsimp only; rw [p19, p20, matmul_mat]; rfl
theorem p23 : k0_pay23 (F := Ideal) (mat 1) (mat P.1) (mat P.2) = mat (corr (next (next (next P))).1 (next (next (next P))).2) := by
  unfold k0_pay23; dsimp only; rw [p21, p22]; exact corr_vec _ _
/-- The first factor after four more steps. -/
theorem p24 : k0_pay24 (F := Ideal) (mat 1) (mat P.1) (mat P.2) = mat (next (next (next (next P)))).1 := by
  unfold k0_pay24; dsimp only; rw [p21, p23, matmul_mat]; rfl
/-- The second factor after four more steps. -/
theorem p25 : k0_pay25 (F := Ideal) (mat 1) (mat P.1) (mat P.2) = mat (next (next (next (next P)))).2 := by
  unfold k0_pay25; dsimp only; rw [p22, p23, matmul_mat]; rfl
theorem p26 : k0_pay26 (F := Ideal) (mat 1) = mat ((3 / 2 : ℝ) • 1) := by
  unfold k0_pay26; dsimp only; exact scale_mat _ _ Consts.threeHalves _
theorem p27 : k0_pay27 (F := Ideal) (mat 1) (mat P.1) (mat P.2)
    = mat ((1 / 2 : ℝ) • ((next (next (next (next P)))).2 * (next (next (next (next P)))).1)) := by
  unfold k0_pay27; dsimp only; rw [p24, p25, matmul_mat]; exact scale_mat _ _ Consts.half _

end Middle

/-- The weights of one group as the kernel loads them. -/
def wcol (v : Fin 32 → EReal) : FVec Ideal S1x32x1 .f32 := fun i => v (i 1)

/-- The scaled whitening matrix: each row times its channel's weight. -/
theorem p29 (P : Mat × Mat) (t : ℝ) (ht : 0 < t) (w : Fin 32 → ℝ) :
    k0_pay29 (F := Ideal) (mat 1) (one1 t) (mat P.1) (mat P.2) (mat ((3 / 2 : ℝ) • 1)) (mat ((1 / 2 : ℝ) • (P.2 * P.1)))
      (wcol fun c => (w c : EReal))
      = mat (Matrix.of fun c e => w c * ((Real.sqrt (t * (32 : ℝ)⁻¹))⁻¹ • (next (next (next P))).2) c e) := by
  unfold k0_pay29
  dsimp only
  rw [sub_mat, show (3 / 2 : ℝ) • (1 : Mat) - (1 / 2 : ℝ) • (P.2 * P.1) = corr P.1 P.2 from rfl, matmul_mat, matmul_mat,
    show P.1 * corr P.1 P.2 = (next P).1 from rfl, show corr P.1 P.2 * P.2 = (next P).2 from rfl, corr_vec, matmul_mat,
    matmul_mat, show (next P).1 * corr (next P).1 (next P).2 = (next (next P)).1 from rfl,
    show corr (next P).1 (next P).2 * (next P).2 = (next (next P)).2 from rfl, corr_vec, matmul_mat,
    show corr (next (next P)).1 (next (next P)).2 * (next (next P)).2 = (next (next (next P))).2 from rfl,
    over32, rsqrt1 _ (by positivity), mul_one1]
  funext i
  idx_vars i
  pointwise [mat, wcol]
  rw [Matrix.of_apply, EReal.coe_mul]

end Cert.KernelIdeal.Block

end
-- ==== Proof.Stats.lean ====
/- What the statistics kernel leaves in its three output blocks, when the activations and the weights are reals. -/
module

public import proofs.«01_k».proof.Proof.Block
public import proofs.«01_k».proof.Proof.Gen.KernelIdeal.Frame
public import Idealize.ShloMosaic.Lib.Pipeline.ValueKit

@[expose] public section

set_option maxRecDepth 16384

noncomputable section

namespace Cert.KernelIdeal.Block

open Cert.KernelIdeal Cert.KernelIdeal.Gen
open Idealize.ShloMosaic Idealize.ShloMosaic.TcCoe
open Cert.Whiten

/-- The whitening matrix of a block with its rows weighted. -/
def weighted (f : Blk) (w : Fin 32 → ℝ) : Mat := Matrix.of fun c e => w c * whitenK (covK f) c e

theorem hz3 : (![0, 0, 0] : Fin 3 → ℕ) = fun _ => 0 := by
  funext a; fin_cases a <;> rfl

section
variable (f : Blk) (w : Fin 32 → ℝ)

/-- The kernel's weighted whitening matrix is the mathematical one. -/
theorem weighted_block (h : 0 < (covK f).trace) :
    k0_pay29 (F := Ideal) k0_pay5 (k0_pay9 (blk f)) (k0_pay24 k0_pay5 (k0_pay12 (blk f)) (k0_pay13 (blk f)))
      (k0_pay25 k0_pay5 (k0_pay12 (blk f)) (k0_pay13 (blk f))) (k0_pay26 k0_pay5)
      (k0_pay27 k0_pay5 (k0_pay12 (blk f)) (k0_pay13 (blk f))) (wcol fun c => (w c : EReal)) = mat (weighted f w) := by
  rw [eye_eq, trace_block, first_block f h.ne', second_block f h.ne', p24, p25, p26, p27, p29 _ _ h]
  rfl

/-- The block of off-diagonal weights. -/
theorem off_block (h : 0 < (covK f).trace) (b : FVec Ideal S1x32x1 .f32) :
    out0_3 (F := Ideal) (blk f) (wcol fun c => (w c : EReal)) b
      = fun i => ((weighted f w (i 1) (i 2) * (1 - (1 : Mat) (i 1) (i 2)) : ℝ) : EReal) := by
  unfold_out out0_3
  simp only [View.canon_unit_zero (S := S1x32x32) hz3, View.ld_unit_zero (S := S32x32x4096) hz3, View.ld_unit_zero (S := S1x32x1) hz3]
  unfold k0_pay31; dsimp only
  rw [weighted_block f w h, eye_eq]
  funext i
  idx_vars i
  pointwise [k0_pay1, mat]
  rw [EReal.coe_mul, EReal.coe_sub, EReal.coe_one]
  rfl

/-- The block of diagonal weights. -/
theorem gamma_block (h : 0 < (covK f).trace) (b : FVec Ideal S1x32x1 .f32) :
    out0_4 (F := Ideal) (blk f) (wcol fun c => (w c : EReal)) b
      = fun i => ((∑ e, weighted f w (i 1) e * (1 : Mat) (i 1) e : ℝ) : EReal) := by
  unfold_out out0_4
  simp only [View.canon_unit_zero (S := S1x32x1) hz3, View.ld_unit_zero (S := S32x32x4096) hz3, View.ld_unit_zero (S := S1x32x1) hz3]
  unfold k0_pay30; dsimp only
  rw [weighted_block f w h, eye_eq]
  funext i
  idx_vars i
  pointwise [k0_pay2, mat]
  simp only [Consts.coe_sum, EReal.coe_mul]
  rfl

/-- The block of folded biases. -/
theorem beta_block (h : 0 < (covK f).trace) (b : Fin 32 → EReal) :
    out0_5 (F := Ideal) (blk f) (wcol fun c => (w c : EReal)) (wcol b)
      = fun i => b (i 1) - ((∑ e, weighted f w (i 1) e * (sum1 f e * (1 / 131072)) : ℝ) : EReal) := by
  unfold_out out0_5
  simp only [View.canon_unit_zero (S := S1x32x1) hz3, View.ld_unit_zero (S := S32x32x4096) hz3, View.ld_unit_zero (S := S1x32x1) hz3]
  rw [weighted_block f w h, sum_row]
  funext i
  idx_vars i
  pointwise [k0_pay3, k0_pay28, mat, row, wcol]
  rw [Consts.countInv]
  simp only [Consts.coe_sum, EReal.coe_mul]

end

/-- What the second kernel computes at an element of its block. -/
theorem apply_block (x : FVec Ideal S32x32x2048 .f32) (o : FVec Ideal S1x32x32 .f32) (g b : FVec Ideal S1x32x1 .f32) :
    out1_4 (F := Ideal) x o g b = fun i => g (ix3 0 (i 1) 0) * x i + (∑ e, o (ix3 0 (i 1) e) * x (ix3 (i 0) e (i 2))) + b (ix3 0 (i 1) 0) := by
  unfold out1_4
  simp only [View.canon_unit_zero (S := S32x32x2048) hz3, View.ld_unit_zero (S := S32x32x2048) hz3, View.ld_unit_zero (S := S1x32x32) hz3, View.ld_unit_zero (S := S1x32x1) hz3]
  unfold k1_pay1; dsimp only
  funext i
  idx_vars i
  pointwise []

end Cert.KernelIdeal.Block
-- ==== Proof.Arrays.lean ====
/- What the statistics kernel's three result arrays hold, when the activations and the weights it finds are reals. -/
module

public import proofs.«01_k».proof.Proof.Stats

@[expose] public section

set_option maxRecDepth 16384

noncomputable section

namespace Cert.KernelIdeal.Arrays

open Cert.KernelIdeal Cert.KernelIdeal.Gen
open Idealize.ShloMosaic Idealize.ShloMosaic.TcCoe
open Idealize.ShloMosaic.Pipeline (Dat)
open Cert.Whiten Cert.KernelIdeal.Block

/-- Where each window of the statistics region is at grid point `t`: group `t`. -/
theorem idx : ∀ t : Fin cfg0.N, win0_0.index t = ![0, t.val, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] :=
  (by decide +kernel : ∀ t : Fin grid0.N, _)

/-- The group of a grid point. -/
def grp (t : Fin cfg0.N) : Fin 8 := ⟨t.val, t.isLt⟩

/-- Real activations as an array of extended reals. -/
def xarr (x : Fin 32 → Fin 256 → Fin 4096 → ℝ) : FVec Ideal S32x256x4096 .f32 := fun i => ((x (i 0) (i 1) (i 2) : ℝ) : EReal)
/-- A value per channel as an array by group. -/
def carr (w : Fin 256 → EReal) : FVec Ideal S8x32x1 .f32 := fun i => w (chan (i 0) (i 1))

/-- The off-diagonal weights of every group. -/
def offArr (x : Fin 32 → Fin 256 → Fin 4096 → ℝ) (w : Fin 256 → ℝ) : FVec Ideal S8x32x32 .f32 :=
  fun i => ((weighted (part x (i 0)) (fun c => w (chan (i 0) c)) (i 1) (i 2) * (1 - (1 : Mat) (i 1) (i 2)) : ℝ) : EReal)
/-- The diagonal weights of every group. -/
def gammaArr (x : Fin 32 → Fin 256 → Fin 4096 → ℝ) (w : Fin 256 → ℝ) : FVec Ideal S8x32x1 .f32 :=
  fun i => ((∑ e, weighted (part x (i 0)) (fun c => w (chan (i 0) c)) (i 1) e * (1 : Mat) (i 1) e : ℝ) : EReal)
/-- The folded biases of every group. -/
def betaArr (x : Fin 32 → Fin 256 → Fin 4096 → ℝ) (w : Fin 256 → ℝ) (b : Fin 256 → EReal) : FVec Ideal S8x32x1 .f32 :=
  fun i => b (chan (i 0) (i 1))
    - ((∑ e, weighted (part x (i 0)) (fun c => w (chan (i 0) c)) (i 1) e * (sum1 (part x (i 0)) e * (1 / 131072)) : ℝ) : EReal)

variable (V : (c : Dev nD) → (b : Ref sig .tc) → Buf (Elt Ideal) ((c : Thread nD τ).loc b)) (c : Dev nD)
variable (x : Fin 32 → Fin 256 → Fin 4096 → ℝ) (w : Fin 256 → ℝ) (b : Fin 256 → EReal)

/-- Where a grid point's block of activations lies. -/
theorem place_x (t : Fin cfg0.N) (y : S32x32x4096.Idx) :
    (win0_0.blk t).view.emb y = (ix3 (y 0) (chan (grp t) (y 1)) (y 2) : S32x256x4096.Idx) := by
  blk_ext [(idx t).1, chan, grp]

/-- Where a grid point's weights lie. -/
theorem place_w (t : Fin cfg0.N) (y : S1x32x1.Idx) :
    (win0_1.blk t).view.emb y = (ix3 (grp t) (y 1) 0 : S8x32x1.Idx) := by
  blk_ext [(idx t).2.1, grp]

/-- Where a grid point's biases lie. -/
theorem place_b (t : Fin cfg0.N) (y : S1x32x1.Idx) :
    (win0_2.blk t).view.emb y = (ix3 (grp t) (y 1) 0 : S8x32x1.Idx) := by
  blk_ext [(idx t).2.2.1, grp]

/-- Where a grid point writes its off-diagonal weights. -/
theorem place_off (t : Fin cfg0.N) (y : S1x32x32.Idx) :
    (win0_3.blk t).view.emb y = (ix3 (grp t) (y 1) (y 2) : S8x32x32.Idx) := by
  blk_ext [(idx t).2.2.2.1, grp]

/-- Where a grid point writes its diagonal weights. -/
theorem place_gamma (t : Fin cfg0.N) (y : S1x32x1.Idx) :
    (win0_4.blk t).view.emb y = (ix3 (grp t) (y 1) 0 : S8x32x1.Idx) := by
  blk_ext [(idx t).2.2.2.2.1, grp]

/-- Where a grid point writes its folded biases. -/
theorem place_beta (t : Fin cfg0.N) (y : S1x32x1.Idx) :
    (win0_5.blk t).view.emb y = (ix3 (grp t) (y 1) 0 : S8x32x1.Idx) := by
  blk_ext [(idx t).2.2.2.2.2, grp]

/-- The activations of a grid point's block. -/
theorem block_x (hx : V c main_v0 = xarr x) (t : Fin cfg0.N) : iblk0 (F := Ideal) V c 0 t = blk (part x (grp t)) := by
  funext y
  blk_simp [iblk0]
  rw [hx]
  exact congrArg (xarr x) (place_x t y)

/-- The weights of a grid point's block. -/
theorem block_w (hw : V c main_v1 = carr b) (t : Fin cfg0.N) : iblk0 (F := Ideal) V c 1 t = wcol (fun c => b (chan (grp t) c)) := by
  funext y
  blk_simp [iblk0]
  rw [hw]
  refine (congrArg (carr b) (place_w t y)).trans ?_
  show b (chan (grp t) (y 1)) = b (chan (grp t) (y 1))
  rfl

/-- The biases of a grid point's block. -/
theorem block_b (hb : V c main_v2 = carr b) (t : Fin cfg0.N) : iblk0 (F := Ideal) V c 2 t = wcol (fun c => b (chan (grp t) c)) := by
  funext y
  blk_simp [iblk0]
  rw [hb]
  refine (congrArg (carr b) (place_b t y)).trans ?_
  show b (chan (grp t) (y 1)) = b (chan (grp t) (y 1))
  rfl

section
variable (hx : V c main_v0 = xarr x) (hw : V c main_v1 = carr fun c => (w c : EReal)) (hp : ∀ g, 0 < (covK (part x g)).trace)
include hx hw hp

/-- The statistics region's first array: the off-diagonal weights. -/
theorem off_eq : (dat0 (F := Ideal) V c).arrAt 3 cfg0.N = offArr x w := by
  refine (dat0 (F := Ideal) V c).arrAt_eq_of_covers 3 _ (by decide +kernel) fun t _ y => ?_
  blk_simp
  rw [after0_3, block_x V c x hx, block_w V c _ hw, off_block _ _ (hp _)]
  exact (congrArg (offArr x w) (place_off t y)).symm

/-- Its second array: the diagonal weights. -/
theorem gamma_eq : (dat0 (F := Ideal) V c).arrAt 4 cfg0.N = gammaArr x w := by
  refine (dat0 (F := Ideal) V c).arrAt_eq_of_covers 4 _ (by decide +kernel) fun t _ y => ?_
  blk_simp
  rw [after0_4, block_x V c x hx, block_w V c _ hw, gamma_block _ _ (hp _)]
  exact (congrArg (gammaArr x w) (place_gamma t y)).symm

/-- Its third array: the folded biases. -/
theorem beta_eq (hb : V c main_v2 = carr b) : (dat0 (F := Ideal) V c).arrAt 5 cfg0.N = betaArr x w b := by
  refine (dat0 (F := Ideal) V c).arrAt_eq_of_covers 5 _ (by decide +kernel) fun t _ y => ?_
  blk_simp
  rw [after0_5, block_x V c x hx, block_w V c _ hw, block_b V c _ hb, beta_block _ _ (hp _)]
  exact (congrArg (betaArr x w b) (place_beta t y)).symm

end

end Cert.KernelIdeal.Arrays
-- ==== Proof.Applied.lean ====
/- What the application kernel's result array holds, for any contents of the four arrays it reads. -/
module

public import proofs.«01_k».proof.Proof.Arrays

@[expose] public section

set_option maxRecDepth 16384

noncomputable section

namespace Cert.KernelIdeal.Applied

open Cert.KernelIdeal Cert.KernelIdeal.Gen
open Idealize.ShloMosaic Idealize.ShloMosaic.TcCoe
open Idealize.ShloMosaic.Pipeline (Dat)
open Cert.Whiten Cert.KernelIdeal.Block Cert.KernelIdeal.Arrays

/-- The group of a grid point: two points, one per half of the pixels, for each. -/
def grp1 (t : Fin cfg1.N) : Fin 8 := ⟨t.val / 2, by have := t.isLt; have e : cfg1.N = 16 := rfl; omega⟩
/-- The pixel of a grid point's half. -/
def pix (t : Fin cfg1.N) (p : Fin 2048) : Fin 4096 := ⟨t.val % 2 * 2048 + p.val, by omega⟩

/-- Where each window of the application region is at grid point `t`: group `t / 2`, half `t % 2`. -/
theorem idx1 : ∀ t : Fin cfg1.N, win1_0.index t = ![0, t.val / 2, t.val % 2] ∧ win1_1.index t = ![t.val / 2, 0, 0]
    ∧ win1_2.index t = ![t.val / 2, 0, 0] ∧ win1_3.index t = ![t.val / 2, 0, 0] ∧ win1_4.index t = ![0, t.val / 2, t.val % 2] :=
  (by decide +kernel : ∀ t : Fin grid1.N, _)

theorem place_x (t : Fin cfg1.N) (y : S32x32x2048.Idx) :
    (win1_0.blk t).view.emb y = (ix3 (y 0) (chan (grp1 t) (y 1)) (pix t (y 2)) : S32x256x4096.Idx) := by
  blk_ext [(idx1 t).1, chan, grp1, pix]
theorem place_off (t : Fin cfg1.N) (y : S1x32x32.Idx) :
    (win1_1.blk t).view.emb y = (ix3 (grp1 t) (y 1) (y 2) : S8x32x32.Idx) := by
  blk_ext [(idx1 t).2.1, grp1]
theorem place_gamma (t : Fin cfg1.N) (y : S1x32x1.Idx) :
    (win1_2.blk t).view.emb y = (ix3 (grp1 t) (y 1) 0 : S8x32x1.Idx) := by
  blk_ext [(idx1 t).2.2.1, grp1]
theorem place_beta (t : Fin cfg1.N) (y : S1x32x1.Idx) :
    (win1_3.blk t).view.emb y = (ix3 (grp1 t) (y 1) 0 : S8x32x1.Idx) := by
  blk_ext [(idx1 t).2.2.2.1, grp1]
/-- Where a grid point writes its block of the result. -/
theorem place_out (t : Fin cfg1.N) (y : S32x32x2048.Idx) :
    (win1_4.blk t).view.emb y = (ix3 (y 0) (chan (grp1 t) (y 1)) (pix t (y 2)) : S32x256x4096.Idx) := by
  blk_ext [(idx1 t).2.2.2.2, chan, grp1, pix]

/-- The result array over what the region finds: the channel's own activation times its diagonal weight, plus the
    group's activations times the off-diagonal weights, plus the folded bias. -/
def outArr (x : FVec Ideal S32x256x4096 .f32) (o : FVec Ideal S8x32x32 .f32) (g b : FVec Ideal S8x32x1 .f32) :
    FVec Ideal S32x256x4096 .f32 := fun i =>
  g (ix3 (grpOf (i 1)) (locOf (i 1)) 0) * x i
    + (∑ e, o (ix3 (grpOf (i 1)) (locOf (i 1)) e) * x (ix3 (i 0) (chan (grpOf (i 1)) e) (i 2)))
    + b (ix3 (grpOf (i 1)) (locOf (i 1)) 0)

variable (V : (c : Dev nD) → (b : Ref sig .tc) → Buf (Elt Ideal) ((c : Thread nD τ).loc b)) (c : Dev nD)

theorem out_eq : (dat1 (F := Ideal) V c).arrAt 4 cfg1.N = outArr (V c main_v0) (V c main_v3_0) (V c main_v3_1) (V c main_v3_2) := by
  refine (dat1 (F := Ideal) V c).arrAt_eq_of_covers 4 _ (by decide +kernel) fun t _ y => ?_
  blk_simp
  rw [after1_4, apply_block]
  refine Eq.trans ?_ (congrArg (outArr _ _ _ _) (place_out t y)).symm
  unfold outArr
  blk_simp [iblk1]
  have hg : grpOf ((ix3 (y 0) (chan (grp1 t) (y 1)) (pix t (y 2)) : S32x256x4096.Idx) 1) = grp1 t := grpOf_chan _ _
  have hl : locOf ((ix3 (y 0) (chan (grp1 t) (y 1)) (pix t (y 2)) : S32x256x4096.Idx) 1) = y 1 := locOf_chan _ _
  have e0 : V c main_v3_1 ((win1_2.blk t).view.emb (ix3 0 (y 1) 0)) = V c main_v3_1 (ix3 (grp1 t) (y 1) 0) :=
    congrArg (V c main_v3_1) (place_gamma t _)
  have e1 : V c main_v0 ((win1_0.blk t).view.emb y) = V c main_v0 (ix3 (y 0) (chan (grp1 t) (y 1)) (pix t (y 2))) :=
    congrArg (V c main_v0) (place_x t y)
  have e2 : ∀ e, V c main_v3_0 ((win1_1.blk t).view.emb (ix3 0 (y 1) e)) = V c main_v3_0 (ix3 (grp1 t) (y 1) e) :=
    fun e => congrArg (V c main_v3_0) (place_off t _)
  have e3 : ∀ e, V c main_v0 ((win1_0.blk t).view.emb (ix3 (y 0) e (y 2))) = V c main_v0 (ix3 (y 0) (chan (grp1 t) e) (pix t (y 2))) :=
    fun e => congrArg (V c main_v0) (place_x t _)
  have e4 : V c main_v3_2 ((win1_3.blk t).view.emb (ix3 0 (y 1) 0)) = V c main_v3_2 (ix3 (grp1 t) (y 1) 0) :=
    congrArg (V c main_v3_2) (place_beta t _)
  rw [hg, hl, e0, e1, e4]
  simp only [e2, e3]
  rfl

end Cert.KernelIdeal.Applied
-- ==== Proof.Result.lean ====
/- What the kernel's run leaves in its result, when its images and its weights are reals. -/
module

public import proofs.«01_k».proof.Proof.KernelRun
public import proofs.«01_k».proof.Proof.Applied

@[expose] public section

set_option maxRecDepth 16384

noncomputable section

namespace Cert.KernelIdeal.Result

open Cert.KernelIdeal Cert.KernelIdeal.Gen
open Idealize.ShloMosaic Idealize.ShloMosaic.TcCoe Idealize.SL.Sem
open Cert.Whiten Cert.KernelIdeal.Block Cert.KernelIdeal.Arrays Cert.KernelIdeal.Applied

/-- The image argument holding the reals `x`. -/
def xin (x : Fin 32 → Fin 256 → Fin 4096 → ℝ) : FVec Ideal S32x256x64x64 .f32 := fun i => ((x (i 0) (i 1) (pixel (i 2) (i 3)) : ℝ) : EReal)
/-- A per-channel argument holding the values `w`. -/
def cin (w : Fin 256 → EReal) : FVec Ideal S1x256x1x1 .f32 := fun i => w (i 1)

/-- Rows and columns merged. -/
theorem cast_x (x : Fin 32 → Fin 256 → Fin 4096 → ℝ) :
    shapeCast S32x256x4096 (xin x) shapeCasts_S32x256x64x64_S32x256x4096 = xarr x := by
  funext i
  idx_vars i
  pointwise [xin, xarr]
  have e : pixel ⟨i2.val / 64, by omega⟩ ⟨i2.val % 64, by omega⟩ = i2 := Fin.ext (by simp only [pixel]; omega)
  rw [e]

/-- Channels split by group. -/
theorem cast_c (w : Fin 256 → EReal) : shapeCast S8x32x1 (cin w) shapeCasts_S1x256x1x1_S8x32x1 = carr w := by
  funext i
  idx_vars i
  pointwise [cin, carr]
  rfl

/-- The application kernel's arithmetic on what the statistics kernel computed. -/
theorem applied_eq (x : Fin 32 → Fin 256 → Fin 4096 → ℝ) (w : Fin 256 → ℝ) (b : Fin 256 → EReal) (n : Fin 32) (k : Fin 256) (p : Fin 4096) :
    outArr (xarr x) (offArr x w) (gammaArr x w) (betaArr x w b) (ix3 n k p) = ((target x w n k p : ℝ) : EReal) + b k := by
  have h := folded_eq x w n k p
  show ((∑ e, weighted (part x (grpOf k)) (fun c => w (chan (grpOf k) c)) (locOf k) e * (1 : Mat) (locOf k) e : ℝ) : EReal) * ((x n k p : ℝ) : EReal)
      + (∑ e, ((weighted (part x (grpOf k)) (fun c => w (chan (grpOf k) c)) (locOf k) e * (1 - (1 : Mat) (locOf k) e) : ℝ) : EReal)
          * ((x n (chan (grpOf k) e) p : ℝ) : EReal))
      + (b (chan (grpOf k) (locOf k)) - ((∑ e, weighted (part x (grpOf k)) (fun c => w (chan (grpOf k) c)) (locOf k) e
          * (sum1 (part x (grpOf k)) e * (1 / 131072)) : ℝ) : EReal)) = _
  simp only [← EReal.coe_mul, ← Consts.coe_sum, ← EReal.coe_add]
  rw [← h, EReal.coe_sub, sub_eq_add_neg, sub_eq_add_neg, chan_of, add_assoc, add_comm (b k)]
  unfold weighted
  simp only [Matrix.of_apply, chan_of]

variable (m : (ℓ : Loc nD τ sig) → Buf (Elt Ideal) ℓ) (ρ : Dev nD → PrngReg)

/-- The kernel's result: every value the whitened activation plus its channel's bias. -/
def kerArr (x : Fin 32 → Fin 256 → Fin 4096 → ℝ) (w : Fin 256 → ℝ) (b : Fin 256 → EReal) : FVec Ideal S32x256x64x64 .f32 := fun i =>
  ((target x w (i 0) (i 1) (pixel (i 2) (i 3)) : ℝ) : EReal) + b (i 1)

/-- THE KERNEL'S RUN: where its images and weights are reals, its result buffer ends as that array. -/
theorem run_eq (x : Dev nD → Fin 32 → Fin 256 → Fin 4096 → ℝ) (w : Dev nD → Fin 256 → ℝ) (b : Dev nD → Fin 256 → EReal)
    (hx : ∀ c : Dev nD, m ((c.tc : Thread nD τ).loc main_arg0) = xin (x c))
    (hw : ∀ c : Dev nD, m ((c.tc : Thread nD τ).loc main_arg1) = cin fun k => (w c k : EReal))
    (hb : ∀ c : Dev nD, m ((c.tc : Thread nD τ).loc main_arg2) = cin (b c)) :
    θ_run defs (onTc (τ := τ) (main (F := Ideal))) ⟨m, fun _ => 0, ρ⟩ fun r => ∀ c : Dev nD,
      r.2.mem ((c.tc : Thread nD τ).loc main_v5) = kerArr (x c) (w c) (b c) := by
  refine θ_run_mono (Whole.run m ρ) fun r h c => ?_
  refine (h c).1.trans ?_
  have hp : ∀ g, 0 < (covK (part (x c) g)).trace := fun g => by rw [cov_eq]; exact trace_pos _
  have h0 : Gen.V1 m ρ c main_v0 = xarr (x c) := (Whole.entry_x m ρ c).trans (by rw [hx c]; exact cast_x _)
  have h1 : Gen.V1 m ρ c main_v1 = carr fun k => (w c k : EReal) := (Whole.entry_w m ρ c).trans (by rw [hw c]; exact cast_c _)
  have h2 : Gen.V1 m ρ c main_v2 = carr (b c) := (Whole.entry_b m ρ c).trans (by rw [hb c]; exact cast_c _)
  rw [Whole.result_eq, out_eq, Whole.mid_x, Whole.mid_off, Whole.mid_gamma, Whole.mid_beta, h0,
    off_eq _ c (x c) (w c) h0 h1 hp, gamma_eq _ c (x c) (w c) h0 h1 hp, beta_eq _ c (x c) (w c) (b c) h0 h1 hp h2]
  generalize hy : outArr (xarr (x c)) (offArr (x c) (w c)) (gammaArr (x c) (w c)) (betaArr (x c) (w c) (b c)) = y
  funext i
  idx_vars i
  pointwise []
  rw [← hy]
  exact applied_eq _ _ _ _ _ _

end Cert.KernelIdeal.Result
-- ==== Proof.Moments.lean ====
/- What the reference computes before its Newton steps, over the reals: the centred activations, the covariance, and
   the first iterate. -/
module

public import proofs.«01_k».proof.Proof.Gen.ReferenceIdeal.Run
public import proofs.«01_k».proof.Proof.Consts
public import Idealize.ShloMosaic.Lib.Pointwise

@[expose] public section

set_option maxRecDepth 16384

noncomputable section

namespace Cert.ReferenceIdeal.Moments

open Cert.ReferenceIdeal Cert.ReferenceIdeal.Gen Cert.ReferenceIdeal.Value
open Idealize.ShloMosaic Idealize.ShloMosaic.TcCoe Idealize.ShloMosaic.StableHlo
open Cert.Whiten

/-- A real matrix per group as a vector of extended reals. -/
def batch (B : Fin 8 → Mat) : FVec Ideal S8x32x32 .f32 := fun i => ((B (i 0) (i 1) (i 2) : ℝ) : EReal)
/-- The image and the pixel of a position in the flattened sample axis. -/
def img (n : Fin 131072) : Fin 32 := ⟨n.val / 4096, by omega⟩
def pos (n : Fin 131072) : Fin 4096 := ⟨n.val % 4096, by omega⟩
/-- Real activations per group as a vector of extended reals, images and pixels flattened. -/
def flat (X : Fin 8 → Blk) : FVec Ideal S8x32x131072 .f32 := fun i => ((X (i 0) (img (i 2)) (i 1) (pos (i 2)) : ℝ) : EReal)

/-- The image argument holds the reals `x`. -/
def xin (x : Fin 32 → Fin 256 → Fin 4096 → ℝ) : FVec Ideal S32x256x64x64 .f32 := fun i => ((x (i 0) (i 1) (pixel (i 2) (i 3)) : ℝ) : EReal)

/-- A sum over the flattened sample axis is one over images and pixels. -/
theorem sum_flat (f : Fin 32 → Fin 4096 → ℝ) : ∑ n : Fin 131072, f (img n) (pos n) = ∑ b, ∑ p, f b p := by
  rw [Fin.sum_univ_tiles 32 4096 rfl]
  refine Finset.sum_congr rfl fun b _ => Finset.sum_congr rfl fun p _ => ?_
  congr 1 <;> (apply Fin.ext; simp only [img, pos]; omega)

/-- The batched product over the sample axis, entry by entry. -/
theorem dot_big (u v : FVec Ideal S8x32x131072 .f32) (g : Fin 8) (a b : Fin 32) :
    Host.dotGeneral dot_S8x32x131072_S8x32x131072_S8x32x32_2_2_1_1_0_0 none u v (ix3 g a b) = ∑ n, u (ix3 g a n) * v (ix3 g b n) := by
  pointwise []

/-- The product of a group's activations with themselves, entry by entry. -/
theorem dot_flat (X : Fin 8 → Blk) (g : Fin 8) (a b : Fin 32) :
    Host.dotGeneral dot_S8x32x131072_S8x32x131072_S8x32x32_2_2_1_1_0_0 none (flat X) (flat X) (ix3 g a b)
      = ((∑ i, ∑ p, X g i a p * X g i b p : ℝ) : EReal) := by
  rw [dot_big, ← sum_flat fun i p => X g i a p * X g i b p, Consts.coe_sum]
  refine Finset.sum_congr rfl fun n _ => ?_
  rw [EReal.coe_mul]
  rfl

/-- The comparison of a row number with a column number, as a bit. -/
theorem eye_bit : ∀ a b : Fin 32,
    IntOp.cmpi .eq (IntOp.addi (BitVec.ofNat 32 (a : ℕ)) 0#32) (BitVec.ofNat 32 (b : ℕ)) = if a = b then 1#1 else 0#1 := by
  decide +kernel
theorem eye_bit' : ∀ a b : Fin 32,
    IntOp.cmpi .eq (BitVec.ofNat 32 (a : ℕ)) (BitVec.ofNat 32 (b : ℕ)) = if a = b then 1#1 else 0#1 := by
  decide +kernel

variable (V0 : Valuation τ sig (Elt Ideal)) (x : Fin 32 → Fin 256 → Fin 4096 → ℝ)
variable (hx : V0 (Proc.devRef .tc main_arg0) = xin x)
include hx

/-- The activations by group. -/
theorem flat_eq : res_main_v2 V0 = flat (part x) := by
  unfold res_main_v2
  rw [hx]
  funext i
  idx_vars i
  pointwise [xin, flat]
  have e1 : (⟨i0.val * 32 + i1.val, by omega⟩ : Fin 256) = chan i0 i1 := rfl
  have e2 : pixel ⟨i2.val / 64 % 64, by omega⟩ ⟨i2.val % 64, by omega⟩ = pos i2 := by
    apply Fin.ext; simp only [pixel, pos]; omega
  rw [e1, e2]
  rfl

/-- The activations less their mean over images and pixels. -/
theorem centred_eq : res_main_v8 V0 = flat (fun g => centred (part x g)) := by
  unfold res_main_v8
  rw [flat_eq V0 x hx]
  funext i
  idx_vars i
  pointwise [flat]
  rw [← Consts.coe_sum, sum_flat fun i p => part x i0 i i1 p, Consts.count, Ideal.div_coe (by norm_num), ← EReal.coe_mul,
    ← EReal.coe_sub, one_div]
  rfl

omit hx in
/-- The identity matrix. -/
theorem eye_eq (i0 i1 : Fin 32) : res_main_v14 V0 (ix2 i0 i1) = (((1 : Mat) i0 i1 : ℝ) : EReal) := by
  pointwise [res_main_v14]
  rw [eye_bit]
  show ((((if i0 = i1 then 1#1 else 0#1 : BitVec 1).toNat : ℝ)) : EReal) = _
  by_cases h : i0 = i1
  · rw [if_pos h, h, Matrix.one_apply_eq]; norm_num
  · rw [if_neg h, Matrix.one_apply_ne h]; norm_num

omit hx in
/-- The sum of the diagonal entries, selected by comparing row and column numbers. -/
theorem trace_sum (M : Mat) :
    (∑ a : Fin 32, ∑ b : Fin 32, Scalar.select (IntOp.cmpi .eq (BitVec.ofNat 32 (a : ℕ)) (BitVec.ofNat 32 (b : ℕ)))
      ((M a b : ℝ) : EReal) 0) = ((M.trace : ℝ) : EReal) := by
  unfold Matrix.trace
  rw [Consts.coe_sum]
  refine Finset.sum_congr rfl fun a _ => ?_
  rw [Finset.sum_eq_single a]
  · rw [eye_bit', if_pos rfl]; rfl
  · intro b _ h; rw [eye_bit', if_neg (Ne.symm h)]; rfl
  · intro h; exact absurd (Finset.mem_univ a) h

/-- The covariance. -/
theorem cov_eq : res_main_v20 V0 = batch (fun g => covR (part x g)) := by
  unfold res_main_v20
  rw [centred_eq V0 x hx]
  funext i
  idx_vars i
  rw [show (batch fun g => covR (part x g)) (ix3 i0 i1 i2) = ((covR (part x i0) i1 i2 : ℝ) : EReal) from rfl]
  rw [addf_apply, dot_flat]
  pointwise [eye_eq]
  rw [Consts.eps]
  unfold covR
  rw [Matrix.add_apply, Matrix.smul_apply, Matrix.of_apply, smul_eq_mul, EReal.coe_add, EReal.coe_mul]

/-- The first iterate: the identity over the root of the covariance's mean diagonal. -/
theorem seed_eq : res_main_v35 V0 = batch (fun g => (Real.sqrt ((covR (part x g)).trace * (32 : ℝ)⁻¹))⁻¹ • 1) := by
  unfold res_main_v35
  rw [cov_eq V0 x hx]
  funext i
  idx_vars i
  pointwise [batch, eye_eq]
  have hp : 0 < (covR (part x i0)).trace * (32 : ℝ)⁻¹ := mul_pos (trace_pos _) (by norm_num)
  rw [trace_sum, Consts.thirtyTwo, Ideal.div_coe (by norm_num), ← EReal.coe_mul, one_div, Ideal.rsqrt_coe, if_neg hp.not_gt,
    if_neg hp.ne', ← EReal.coe_mul]
  rfl

end Cert.ReferenceIdeal.Moments
-- ==== Proof.Reference.lean ====
/- What the reference computes, over the reals: its Newton steps on every group's covariance, and its result. -/
module

public import proofs.«01_k».proof.Proof.Moments
public import Idealize.ShloMosaic.Lib.Claim

@[expose] public section

set_option maxRecDepth 16384

noncomputable section

namespace Cert.ReferenceIdeal.Moments

open Cert.ReferenceIdeal Cert.ReferenceIdeal.Gen Cert.ReferenceIdeal.Value
open Idealize.ShloMosaic Idealize.ShloMosaic.TcCoe Idealize.ShloMosaic.StableHlo Idealize.SL.Sem
open Cert.Whiten

/-- The batched product of real matrices. -/
theorem dot_batch (A B : Fin 8 → Mat) :
    Host.dotGeneral dot_S8x32x32_S8x32x32_S8x32x32_2_1_1_2_0_0 none (batch A) (batch B) = batch (fun g => A g * B g) := by
  funext i
  idx_vars i
  pointwise [batch]
  rw [Matrix.mul_apply, Consts.coe_sum]
  simp only [EReal.coe_mul]

/-- The batched product of two real matrices in the other order, stored transposed. -/
theorem dot_batch_swap (A B : Fin 8 → Mat) :
    Host.dotGeneral dot_S8x32x32_S8x32x32_S8x32x32_1_2_2_1_0_0 none (batch A) (batch B) = batch (fun g => (B g * A g).transpose) := by
  funext i
  idx_vars i
  pointwise [batch]
  rw [Matrix.transpose_apply, Matrix.mul_apply, Consts.coe_sum]
  refine Finset.sum_congr rfl fun k _ => ?_
  rw [EReal.coe_mul, mul_comm]

/-- The batched product of a real matrix's transpose with a real matrix. -/
theorem dot_batch_trans (A B : Fin 8 → Mat) :
    Host.dotGeneral dot_S8x32x32_S8x32x32_S8x32x32_1_1_2_2_0_0 none (batch fun g => (A g).transpose) (batch B)
      = batch (fun g => A g * B g) := by
  funext i
  idx_vars i
  pointwise [batch]
  rw [Matrix.mul_apply, Consts.coe_sum]
  refine Finset.sum_congr rfl fun k _ => ?_
  rw [Matrix.transpose_apply, EReal.coe_mul]

/-- One Newton step on every group. -/
theorem step_eq (σ S : Fin 8 → Mat) :
    mulf (broadcastInDim S8x32x32 ![] bcast_S_S8x32x32 (constant (F := Ideal) S_ .f32 0x3F000000#32))
      (subf (mulf (broadcastInDim S8x32x32 ![] bcast_S_S8x32x32 (constant (F := Ideal) S_ .f32 0x40400000#32)) (batch S))
        (Host.dotGeneral dot_S8x32x32_S8x32x32_S8x32x32_1_1_2_2_0_0 none
          (Host.dotGeneral dot_S8x32x32_S8x32x32_S8x32x32_1_2_2_1_0_0 none
            (Host.dotGeneral dot_S8x32x32_S8x32x32_S8x32x32_2_1_1_2_0_0 none (batch S) (batch S)) (batch σ)) (batch S)))
      = batch (fun g => newtonStep (σ g) (S g)) := by
  rw [dot_batch, dot_batch_swap, dot_batch_trans]
  funext i
  idx_vars i
  pointwise [batch]
  rw [Consts.half, Consts.three]
  unfold newtonStep
  rw [Matrix.smul_apply, Matrix.sub_apply, Matrix.smul_apply, smul_eq_mul, smul_eq_mul, EReal.coe_mul, EReal.coe_sub, EReal.coe_mul]

/-- The iterates of every group. -/
def iter (x : Fin 32 → Fin 256 → Fin 4096 → ℝ) (k : ℕ) (g : Fin 8) : Mat :=
  newton (covR (part x g)) ((Real.sqrt ((covR (part x g)).trace * (32 : ℝ)⁻¹))⁻¹ • 1) k

section
variable (V0 : Valuation τ sig (Elt Ideal)) (x : Fin 32 → Fin 256 → Fin 4096 → ℝ)
variable (hx : V0 (Proc.devRef .tc main_arg0) = xin x)
include hx

theorem iter0 : res_main_v35 V0 = batch (iter x 0) := seed_eq V0 x hx
theorem iter1 : res_main_v43 V0 = batch (iter x 1) := by
  unfold res_main_v43; rw [iter0 V0 x hx, cov_eq V0 x hx]; exact step_eq _ _
theorem iter2 : res_main_v51 V0 = batch (iter x 2) := by
  unfold res_main_v51; rw [iter1 V0 x hx, cov_eq V0 x hx]; exact step_eq _ _
theorem iter3 : res_main_v59 V0 = batch (iter x 3) := by
  unfold res_main_v59; rw [iter2 V0 x hx, cov_eq V0 x hx]; exact step_eq _ _
theorem iter4 : res_main_v67 V0 = batch (iter x 4) := by
  unfold res_main_v67; rw [iter3 V0 x hx, cov_eq V0 x hx]; exact step_eq _ _
theorem iter5 : res_main_v75 V0 = batch (iter x 5) := by
  unfold res_main_v75; rw [iter4 V0 x hx, cov_eq V0 x hx]; exact step_eq _ _
theorem iter6 : res_main_v83 V0 = batch (iter x 6) := by
  unfold res_main_v83; rw [iter5 V0 x hx, cov_eq V0 x hx]; exact step_eq _ _
/-- The reference's seventh iterate. -/
theorem iter7 : res_main_v91 V0 = batch (iter x 7) := by
  unfold res_main_v91; rw [iter6 V0 x hx, cov_eq V0 x hx]; exact step_eq _ _

end

/-- The weight argument's values by channel, as an array. -/
def cin (w : Fin 256 → EReal) : FVec Ideal S1x256x1x1 .f32 := fun i => w (i 1)

/-- The result: the group's whitening matrix times its centred activations, scaled and shifted by channel. -/
def refArr (x : Fin 32 → Fin 256 → Fin 4096 → ℝ) (w : Fin 256 → ℝ) (b : Fin 256 → EReal) : FVec Ideal S32x256x64x64 .f32 := fun i =>
  ((target x w (i 0) (i 1) (pixel (i 2) (i 3)) : ℝ) : EReal) + b (i 1)

/-- The product of every group's matrix with its activations, entry by entry. -/
theorem dot_apply (u : FVec Ideal S8x32x32 .f32) (v : FVec Ideal S8x32x131072 .f32) (g : Fin 8) (a : Fin 32) (n : Fin 131072) :
    Host.dotGeneral dot_S8x32x32_S8x32x131072_S8x32x131072_2_1_1_2_0_0 none u v (ix3 g a n) = ∑ e, u (ix3 g a e) * v (ix3 g e n) := by
  pointwise []

/-- The reference's operations after its seventh iterate `S`: one more step, the product with the centred activations
    `xm`, the channels back in place, the weights `w` and the biases `b`. -/
def last (S σ : FVec Ideal S8x32x32 .f32) (xm : FVec Ideal S8x32x131072 .f32) (w b : FVec Ideal S1x256x1x1 .f32) :
    FVec Ideal S32x256x64x64 .f32 :=
  addf (mulf (transpose S32x256x64x64 [1, 0, 2, 3] (shapeCast _
      (Host.dotGeneral dot_S8x32x32_S8x32x131072_S8x32x131072_2_1_1_2_0_0 none
        (mulf (broadcastInDim S8x32x32 ![] bcast_S_S8x32x32 (constant S_ .f32 0x3F000000#32))
          (subf (mulf (broadcastInDim S8x32x32 ![] bcast_S_S8x32x32 (constant S_ .f32 0x40400000#32)) S)
            (Host.dotGeneral dot_S8x32x32_S8x32x32_S8x32x32_1_1_2_2_0_0 none
              (Host.dotGeneral dot_S8x32x32_S8x32x32_S8x32x32_1_2_2_1_0_0 none
                (Host.dotGeneral dot_S8x32x32_S8x32x32_S8x32x32_2_1_1_2_0_0 none S S) σ) S))) xm)
      shapeCasts_S8x32x131072_S256x32x64x64) transposes_S256x32x64x64_S32x256x64x64_1_0_2_3)
    (broadcastInDim S32x256x64x64 ![0, 1, 2, 3] bcast_S1x256x1x1_S32x256x64x64_0_1_2_3 w))
    (broadcastInDim S32x256x64x64 ![0, 1, 2, 3] bcast_S1x256x1x1_S32x256x64x64_0_1_2_3 b)

/-- Those operations give the result array. -/
theorem last_eq (x : Fin 32 → Fin 256 → Fin 4096 → ℝ) (w : Fin 256 → ℝ) (b : Fin 256 → EReal) :
    last (batch (iter x 7)) (batch fun g => covR (part x g)) (flat fun g => centred (part x g)) (cin fun k => (w k : EReal)) (cin b)
      = refArr x w b := by
  unfold last
  rw [step_eq]
  generalize hy : Host.dotGeneral dot_S8x32x32_S8x32x131072_S8x32x131072_2_1_1_2_0_0 none (batch _) (flat _) = y
  funext i
  idx_vars i
  pointwise [cin]
  rw [← hy, dot_apply]
  have e1 : img ⟨i0.val * 4096 + i2.val * 64 + i3.val, by omega⟩ = i0 := Fin.ext (by simp only [img]; omega)
  have e2 : pos ⟨i0.val * 4096 + i2.val * 64 + i3.val, by omega⟩ = pixel i2 i3 := Fin.ext (by simp only [pos, pixel]; omega)
  show (∑ e, ((newton _ _ 8 (locOf i1) e : ℝ) : EReal)
      * ((centred (part x (grpOf i1)) (img ⟨i0.val * 4096 + i2.val * 64 + i3.val, _⟩) e (pos ⟨i0.val * 4096 + i2.val * 64 + i3.val, _⟩) : ℝ) : EReal))
    * (w i1 : EReal) + b i1 = _
  rw [e1, e2]
  simp only [← EReal.coe_mul, ← Consts.coe_sum]
  rfl

/-- THE REFERENCE'S RUN: where its images and weights are reals, its result buffer ends as that array. -/
theorem run_eq (m : (ℓ : Loc nD τ sig) → Buf (Elt Ideal) ℓ) (ρ : Dev nD → PrngReg)
    (x : Dev nD → Fin 32 → Fin 256 → Fin 4096 → ℝ) (w : Dev nD → Fin 256 → ℝ) (b : Dev nD → Fin 256 → EReal)
    (hx : ∀ c : Dev nD, m ((c.tc : Thread nD τ).loc main_arg0) = xin (x c))
    (hw : ∀ c : Dev nD, m ((c.tc : Thread nD τ).loc main_arg1) = cin fun k => (w c k : EReal))
    (hb : ∀ c : Dev nD, m ((c.tc : Thread nD τ).loc main_arg2) = cin (b c)) :
    θ_run defs (onTc (τ := τ) (main (F := Ideal))) ⟨m, fun _ => 0, ρ⟩ fun r => ∀ c : Dev nD,
      r.2.mem ((c.tc : Thread nD τ).loc main_v106) = refArr (x c) (w c) (b c) := by
  refine θ_run_mono (Value.run m ρ) fun r h c => ?_
  refine (h c).1.trans (Eq.trans ?_ (last_eq (x c) (w c) (b c)))
  have h0 : launchContents m c (Proc.devRef .tc main_arg0) = xin (x c) := hx c
  have h1 : launchContents m c (Proc.devRef .tc main_arg1) = cin fun k => (w c k : EReal) := hw c
  have h2 : launchContents m c (Proc.devRef .tc main_arg2) = cin (b c) := hb c
  rw [iter7 _ _ h0, cov_eq _ _ h0, centred_eq _ _ h0, h1, h2]
  rfl

end Cert.ReferenceIdeal.Moments
-- ==== Proof.Finite.lean ====
/- What the precondition says: every image value and every weight is a real number. -/
module

public import proofs.«01_k».proof.Pre_finite
public import proofs.«01_k».proof.Proof.Consts
public import Idealize.ShloMosaic.Lib.Pointwise
public import Idealize.ShloMosaic.Lib.ReduceAll

@[expose] public section

set_option maxRecDepth 16384

noncomputable section

namespace Cert.Finite

open Cert.Pre_finite
open Idealize.ShloMosaic

/-- The shape relations the precondition states hold. -/
theorem facts : Cert.Pre_finite.Facts where
  bcast_S_S32x256x64x64 := by decide
  reducesTo_S32x256x64x64_S_d0_1_2_3 := by decide
  h_S_ := by decide
  bcast_S_S1x256x1x1 := by decide
  reducesTo_S1x256x1x1_S_d0_1_2_3 := by decide

/-- An extended real of absolute value below infinity is a real. -/
theorem real_of_abs (a : EReal) (h : Ideal.cmp .olt (max a (-a)) ⊤ = 1#1) : ((a.toReal : ℝ) : EReal) = a := by
  have h' : max a (-a) < ⊤ := by
    by_contra hn
    rw [show Ideal.cmp .olt (max a (-a)) ⊤ = BitVec.ofBool (decide (max a (-a) < ⊤)) from rfl, decide_eq_false hn] at h
    exact absurd h (by decide)
  refine EReal.coe_toReal (fun e => ?_) (fun e => ?_)
  · rw [e] at h'; exact absurd h' (by simp)
  · rw [e] at h'; exact absurd h' (by simp)

/-- Where the precondition holds, every image value and every weight is a real. -/
theorem real_of_pre [Cert.Pre_finite.Facts] (x : FVec Ideal S32x256x64x64 .f32) (w b : FVec Ideal S1x256x1x1 .f32)
    (h : fn (F := Ideal) x w b = fun _ => 1#1) :
    (∀ i, (((x i : EReal).toReal : ℝ) : EReal) = x i) ∧ (∀ i, (((w i : EReal).toReal : ℝ) : EReal) = w i) := by
  have h0 := congrFun h ix0
  dsimp only [fn] at h0
  obtain ⟨h1, h2⟩ := IntOp.andi_eq_one.1 h0
  haveI : Subsingleton S_.Idx := ⟨fun a b => funext fun k => k.elim0⟩
  refine ⟨fun i => real_of_abs _ ?_, fun i => real_of_abs _ ?_⟩
  · have h3 := Host.reduce_andi_all _ _ _ _ _ h1 i
    rw [← Consts.inf]
    exact h3
  · have h3 := Host.reduce_andi_all _ _ _ _ _ h2 i
    rw [← Consts.inf]
    exact h3

end Cert.Finite
-- ==== Proof.Equation.lean ====
/- The equation of the two programs: from agreeing arguments whose images and weights are finite, the kernel and the
   reference end with the same result. -/
module

public import proofs.«01_k».proof.Defs
public import proofs.«01_k».proof.Proof.Result
public import proofs.«01_k».proof.Proof.Reference
public import proofs.«01_k».proof.Proof.Finite
public import Idealize.ShloMosaic.Lib.Claim

@[expose] public section

noncomputable section

namespace Cert.Equation

open Idealize.ShloMosaic Idealize.ShloMosaic.TcCoe Idealize.SL.Sem
open Cert.Whiten

/-- The reals of an image argument, by image, channel and pixel. -/
def xOf (v : FVec Ideal Cert.KernelIdeal.S32x256x64x64 .f32) (n : Fin 32) (k : Fin 256) (p : Fin 4096) : ℝ :=
  (v (ix4 n k ⟨p.val / 64, by omega⟩ ⟨p.val % 64, by omega⟩) : EReal).toReal
/-- The values of a per-channel argument. -/
def cOf (v : FVec Ideal Cert.KernelIdeal.S1x256x1x1 .f32) (k : Fin 256) : EReal := v (ix4 0 k 0 0)

/-- An image argument of reals is the array of its reals. -/
theorem x_eq (v : FVec Ideal Cert.KernelIdeal.S32x256x64x64 .f32) (h : ∀ i, (((v i : EReal).toReal : ℝ) : EReal) = v i) :
    v = Cert.KernelIdeal.Result.xin (xOf v) := by
  funext i
  idx_vars i
  show _ = (((v (ix4 i0 i1 ⟨(pixel i2 i3).val / 64, _⟩ ⟨(pixel i2 i3).val % 64, _⟩) : EReal).toReal : ℝ) : EReal)
  rw [h]
  have e2 : (⟨(pixel i2 i3).val / 64, by omega⟩ : Fin 64) = i2 := Fin.ext (by simp only [pixel]; omega)
  have e3 : (⟨(pixel i2 i3).val % 64, by omega⟩ : Fin 64) = i3 := Fin.ext (by simp only [pixel]; omega)
  rw [e2, e3]

/-- A per-channel argument is the array of its values. -/
theorem c_eq (v : FVec Ideal Cert.KernelIdeal.S1x256x1x1 .f32) : v = Cert.KernelIdeal.Result.cin (cOf v) := by
  funext i
  idx_vars i
  show _ = v (ix4 0 i1 0 0)
  rw [show i0 = 0 from Subsingleton.elim _ _, show i2 = 0 from Subsingleton.elim _ _, show i3 = 0 from Subsingleton.elim _ _]

/-- A per-channel argument of reals is the array of its reals. -/
theorem w_eq (v : FVec Ideal Cert.KernelIdeal.S1x256x1x1 .f32) (h : ∀ i, (((v i : EReal).toReal : ℝ) : EReal) = v i) :
    v = Cert.KernelIdeal.Result.cin (fun k => (((cOf v k).toReal : ℝ) : EReal)) :=
  (c_eq v).trans (congrArg _ (funext fun k => (h _).symm))

/-- The value claim. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hagree
  haveI := Cert.Finite.facts
  have hr := fun c => Cert.Finite.real_of_pre _ _ _ (hpre c)
  let X := fun c : Dev Cert.KernelIdeal.nD => xOf (m ((c.tc : Thread Cert.KernelIdeal.nD Cert.KernelIdeal.τ).loc Cert.KernelIdeal.main_arg0))
  let W := fun (c : Dev Cert.KernelIdeal.nD) k => (cOf (m ((c.tc : Thread Cert.KernelIdeal.nD Cert.KernelIdeal.τ).loc Cert.KernelIdeal.main_arg1)) k).toReal
  let B := fun c : Dev Cert.KernelIdeal.nD => cOf (m ((c.tc : Thread Cert.KernelIdeal.nD Cert.KernelIdeal.τ).loc Cert.KernelIdeal.main_arg2))
  have hx := fun c => x_eq _ (hr c).1
  have hw := fun c => w_eq _ (hr c).2
  have hb := fun c : Dev Cert.KernelIdeal.nD => c_eq (m ((c.tc : Thread Cert.KernelIdeal.nD Cert.KernelIdeal.τ).loc Cert.KernelIdeal.main_arg2))
  refine ⟨fun c => Cert.KernelIdeal.Result.kerArr (X c) (W c) (B c), ?_, ?_⟩
  · exact θ_run_mono (θ_run_and (Cert.KernelIdeal.Result.run_eq m g X W B hx hw hb) (Cert.KernelIdeal.Whole.run m g))
      fun r h c => ⟨h.1 c, (h.2 c).2⟩
  · exact θ_run_mono (θ_run_and (Cert.ReferenceIdeal.Moments.run_eq m' g' X W B
        (fun c => (hagree c).1.trans (hx c)) (fun c => (hagree c).2.1.trans (hw c)) (fun c => (hagree c).2.2.trans (hb c)))
        (Cert.ReferenceIdeal.Value.run m' g'))
      fun r h c => ⟨h.1 c, (h.2 c).2⟩

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments as they were, and has no semaphore whose counter could move. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  θ_run_mono (Cert.ReferenceIdeal.Value.run m g) fun r h => ⟨fun c => (h c).2, sem_eq_zero_of_no_sems rfl r.2⟩

/-- Every claim of this certificate. -/
theorem claim : Cert.Claim := ⟨Cert.Kernel.Gen.facts, Cert.KernelIdeal.Gen.facts, Cert.ReferenceIdeal.Gen.facts, Cert.Finite.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ, trivial, Cert.Equation.algebraic⟩

end Cert.Proof

end
